-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x2048x512 : Shape := ⟨3, ![16, 2048, 512]⟩
abbrev S16x1x2048 : Shape := ⟨3, ![16, 1, 2048]⟩
abbrev S16x256 : Shape := ⟨2, ![16, 256]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S16x2048x512 : S_.BroadcastsInDim S16x2048x512 (![] : Fin 0 → Fin S16x2048x512.rank)
  bcast_S_S16x1x2048 : S_.BroadcastsInDim S16x1x2048 (![] : Fin 0 → Fin S16x1x2048.rank)

variable [Facts]

def fn {F : FTy → Type} [FloatOps F] (main_arg0 : FVec F S16x2048x512 .f32) (main_arg1 : FVec F S16x1x2048 .f32) (main_arg2 : IVec S16x256 32) (main_arg3 : FVec F S512x512x3 .f32) (main_arg4 : FVec F S512 .f32) (main_arg5 : FVec F S1x512 .f32) (main_arg6 : FVec F S1 .f32) : IVec S16x2048x512 1 × IVec S16x1x2048 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_cst_0 : FVec F S_ .f32 := constant S_ .f32 0x00000000#32
  let main_v3 : FVec F S16x1x2048 .f32 := broadcastInDim S16x1x2048 ![] bcast_S_S16x1x2048 main_cst_0
  let main_v4 : IVec S16x1x2048 1 := cmpf .oge main_arg1 main_v3
  (main_v2, main_v4)
-- ==== Kernel.lean ====
abbrev S16x2048x512 : Shape := ⟨3, ![16, 2048, 512]⟩
abbrev S16x1x2048 : Shape := ⟨3, ![16, 1, 2048]⟩
abbrev S16x256 : Shape := ⟨2, ![16, 256]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S512x512x1 : Shape := ⟨3, ![512, 512, 1]⟩
abbrev S512x512 : Shape := ⟨2, ![512, 512]⟩
abbrev S1x1 : Shape := ⟨2, ![1, 1]⟩
abbrev S1x2048x512 : Shape := ⟨3, ![1, 2048, 512]⟩
abbrev S1x1x2048 : Shape := ⟨3, ![1, 1, 2048]⟩
abbrev S2048x512 : Shape := ⟨2, ![2048, 512]⟩
abbrev S2047x512 : Shape := ⟨2, ![2047, 512]⟩
abbrev S512x1 : Shape := ⟨2, ![512, 1]⟩
abbrev S2048x1 : Shape := ⟨2, ![2048, 1]⟩
abbrev S2048 : Shape := ⟨1, ![2048]⟩
abbrev S16x2048 : Shape := ⟨2, ![16, 2048]⟩
abbrev S_ : Shape := ⟨0, ![]⟩
abbrev S16 : Shape := ⟨1, ![16]⟩
abbrev S1x16 : Shape := ⟨2, ![1, 16]⟩
abbrev S2048x16 : Shape := ⟨2, ![2048, 16]⟩
abbrev S256 : Shape := ⟨1, ![256]⟩
abbrev S1x256 : Shape := ⟨2, ![1, 256]⟩
abbrev S16x1 : Shape := ⟨2, ![16, 1]⟩
abbrev S16x1x256 : Shape := ⟨3, ![16, 1, 256]⟩
abbrev S16x256x512 : Shape := ⟨3, ![16, 256, 512]⟩
abbrev S1x512x512 : Shape := ⟨3, ![1, 512, 512]⟩
abbrev S1x1x512 : Shape := ⟨3, ![1, 1, 512]⟩
abbrev S1x1x256 : Shape := ⟨3, ![1, 1, 256]⟩
abbrev S1x256x512 : Shape := ⟨3, ![1, 256, 512]⟩
abbrev S256x512 : Shape := ⟨2, ![256, 512]⟩
abbrev S256x1 : Shape := ⟨2, ![256, 1]⟩

abbrev nBuf : Space → Nat
  | .hbm => 55
  | .vmem => 32
  | .smem => 0
  | _ => 0

abbrev bufTy : (tb : Table) → Fin (tcTables nBuf tb) → BufTy
  | .hbm, ⟨0, _⟩ => ⟨S16x2048x512, .f32⟩
  | .hbm, ⟨1, _⟩ => ⟨S16x1x2048, .f32⟩
  | .hbm, ⟨2, _⟩ => ⟨S16x256, .i32⟩
  | .hbm, ⟨3, _⟩ => ⟨S512x512x3, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S512x512x1, .f32⟩
  | .hbm, ⟨8, _⟩ => ⟨S512x512, .f32⟩
  | .hbm, ⟨9, _⟩ => ⟨S512x512, .f32⟩
  | .hbm, ⟨10, _⟩ => ⟨S512x512x1, .f32⟩
  | .hbm, ⟨11, _⟩ => ⟨S512x512, .f32⟩
  | .hbm, ⟨12, _⟩ => ⟨S512x512, .f32⟩
  | .hbm, ⟨13, _⟩ => ⟨S512x512x1, .f32⟩
  | .hbm, ⟨14, _⟩ => ⟨S512x512, .f32⟩
  | .hbm, ⟨15, _⟩ => ⟨S512x512, .f32⟩
  | .hbm, ⟨16, _⟩ => ⟨S1x512, .f32⟩
  | .hbm, ⟨17, _⟩ => ⟨S1x1, .f32⟩
  | .hbm, ⟨18, _⟩ => ⟨S16x1x2048, .f32⟩
  | .hbm, ⟨19, _⟩ => ⟨S16x2048, .f32⟩
  | .hbm, ⟨20, _⟩ => ⟨S_, .i32⟩
  | .hbm, ⟨21, _⟩ => ⟨S16x256, .i32⟩
  | .hbm, ⟨22, _⟩ => ⟨S16x256, .i1⟩
  | .hbm, ⟨23, _⟩ => ⟨S16x256, .f32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S1x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .i32⟩
  | .hbm, ⟨36, _⟩ => ⟨S1x16, .i32⟩
  | .hbm, ⟨37, _⟩ => ⟨S16x2048, .f32⟩
  | .hbm, ⟨38, _⟩ => ⟨S16x1x2048, .f32⟩
  | .hbm, ⟨39, _⟩ => ⟨S16x2048, .f32⟩
  | .hbm, ⟨40, _⟩ => ⟨S16x1x2048, .f32⟩
  | .hbm, ⟨41, _⟩ => ⟨S16x2048, .i32⟩
  | .hbm, ⟨42, _⟩ => ⟨S16x1x2048, .i32⟩
  | .hbm, ⟨43, _⟩ => ⟨S256, .i32⟩
  | .hbm, ⟨44, _⟩ => ⟨S1x256, .i32⟩
  | .hbm, ⟨45, _⟩ => ⟨S16, .i32⟩
  | .hbm, ⟨46, _⟩ => ⟨S16x1, .i32⟩
  | .hbm, ⟨47, _⟩ => ⟨S16x256, .i32⟩
  | .hbm, ⟨48, _⟩ => ⟨S16x256, .i32⟩
  | .hbm, ⟨49, _⟩ => ⟨S16x256, .i1⟩
  | .hbm, ⟨50, _⟩ => ⟨S16x256, .f32⟩
  | .hbm, ⟨51, _⟩ => ⟨S16x1x256, .f32⟩
  | .hbm, ⟨52, _⟩ => ⟨S16x256x512, .f32⟩
  | .hbm, ⟨53, _⟩ => ⟨S16x2048, .f32⟩
  | .hbm, ⟨54, _⟩ => ⟨S16x2048, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x16, .f32⟩
  | .local _ .vmem, ⟨13, _⟩ => ⟨S1x16, .f32⟩
  | .local _ .vmem, ⟨14, _⟩ => ⟨S2048x16, .f32⟩
  | .local _ .vmem, ⟨15, _⟩ => ⟨S2048x16, .f32⟩
  | .local _ .vmem, ⟨16, _⟩ => ⟨S2048x16, .f32⟩
  | .local _ .vmem, ⟨17, _⟩ => ⟨S2048x16, .f32⟩
  | .local _ .vmem, ⟨18, _⟩ => ⟨S2048x16, .i32⟩
  | .local _ .vmem, ⟨19, _⟩ => ⟨S1x16, .i32⟩
  | .local _ .vmem, ⟨20, _⟩ => ⟨S1x512x512, .f32⟩
  | .local _ .vmem, ⟨21, _⟩ => ⟨S1x512x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .i32⟩
  | .local _ .vmem, ⟨27, _⟩ => ⟨S1x1x512, .i32⟩
  | .local _ .vmem, ⟨28, _⟩ => ⟨S1x1x256, .f32⟩
  | .local _ .vmem, ⟨29, _⟩ => ⟨S1x1x256, .f32⟩
  | .local _ .vmem, ⟨30, _⟩ => ⟨S1x256x512, .f32⟩
  | .local _ .vmem, ⟨31, _⟩ => ⟨S1x256x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

@[reducible] def k1_t1_loop : Scf.Loop 32 :=
  let c0_i32_1 : BitVec 32 := 0#32
  let c2048_i32 : BitVec 32 := 2048#32
  let v4 : BitVec 32 := Scalar.addi c0_i32_1 c2048_i32
  let c1_i32 : BitVec 32 := 1#32
  ⟨c0_i32_1, v4, c1_i32⟩
def k1_off1 (k1_t1 : Fin k1_t1_loop.trips) : Fin 2 → Nat :=
  let c0_i32_1 : BitVec 32 := 0#32
  let c1_i32 : BitVec 32 := 1#32
  let arg8 : BitVec 32 := Scf.iv c0_i32_1 c1_i32 k1_t1
  let v9 : Index := Scalar.indexCast arg8
  let c0_5 : Index := 0#32
  ![v9.toNat, 0]
abbrev stage1_0 : Fin 1 → Memref sig .tc .vmem S2048x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2048x16 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x16 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨2, ![16, 4], ![false, false]⟩

def k2_cond1 (i : grid2.Coords) : BitVec 1 :=
  let arg1 : BitVec 32 := BitVec.ofNat 32 (i 1).val
  let c0_i32 : BitVec 32 := 0#32
  let v45 : BitVec 1 := Scalar.cmpi .eq arg1 c0_i32
  let v46 : BitVec 32 := Scalar.extui v45
  let c0_i32_19 : BitVec 32 := 0#32
  let v47 : BitVec 1 := Scalar.cmpi .ne v46 c0_i32_19
  v47

def k2_cond2 (i : grid2.Coords) : BitVec 1 :=
  let arg1 : BitVec 32 := BitVec.ofNat 32 (i 1).val
  let c0_i32_20 : BitVec 32 := 0#32
  let v48 : BitVec 1 := Scalar.cmpi .ne arg1 c0_i32_20
  let v49 : BitVec 32 := Scalar.extui v48
  let c0_i32_21 : BitVec 32 := 0#32
  let v50 : BitVec 1 := Scalar.cmpi .ne v49 c0_i32_21
  v50

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S16x2048x512 : Shape := ⟨3, ![16, 2048, 512]⟩
abbrev S16x1x2048 : Shape := ⟨3, ![16, 1, 2048]⟩
abbrev S16x256 : Shape := ⟨2, ![16, 256]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S_ : Shape := ⟨0, ![]⟩
abbrev S16x2050x512 : Shape := ⟨3, ![16, 2050, 512]⟩
abbrev S512x512x1 : Shape := ⟨3, ![512, 512, 1]⟩
abbrev S512x512 : Shape := ⟨2, ![512, 512]⟩
abbrev S1x1x512 : Shape := ⟨3, ![1, 1, 512]⟩
abbrev S512x1 : Shape := ⟨2, ![512, 1]⟩
abbrev S16x2048x1 : Shape := ⟨3, ![16, 2048, 1]⟩
abbrev S1x1x1 : Shape := ⟨3, ![1, 1, 1]⟩
abbrev S16x2048 : Shape := ⟨2, ![16, 2048]⟩
abbrev S16 : Shape := ⟨1, ![16]⟩
abbrev S16x1 : Shape := ⟨2, ![16, 1]⟩
abbrev S16x512 : Shape := ⟨2, ![16, 512]⟩
abbrev S2048x16 : Shape := ⟨2, ![2048, 16]⟩
abbrev S2048x16x512 : Shape := ⟨3, ![2048, 16, 512]⟩
abbrev S1x16 : Shape := ⟨2, ![1, 16]⟩
abbrev S1x16x512 : Shape := ⟨3, ![1, 16, 512]⟩
abbrev S16x256x512 : Shape := ⟨3, ![16, 256, 512]⟩
abbrev S16x2048x2 : Shape := ⟨3, ![16, 2048, 2]⟩

abbrev nBuf : Space → Nat
  | .hbm => 165
  | .vmem => 0
  | .smem => 0
  | _ => 0

abbrev hbmTy0_0 (i : Nat) : BufTy := match i % 128 with
  | 0 => ⟨S16x2048x512, .f32⟩
  | 1 => ⟨S16x1x2048, .f32⟩
  | 2 => ⟨S16x256, .i32⟩
  | 3 => ⟨S512x512x3, .f32⟩
  | 4 => ⟨S512, .f32⟩
  | 5 => ⟨S1x512, .f32⟩
  | 6 => ⟨S1, .f32⟩
  | 7 => ⟨S_, .i32⟩
  | 8 => ⟨S_, .f32⟩
  | 9 => ⟨S16x2050x512, .f32⟩
  | 10 => ⟨S16x2048x512, .f32⟩
  | 11 => ⟨S512x512x1, .f32⟩
  | 12 => ⟨S512x512, .f32⟩
  | 13 => ⟨S16x2048x512, .f32⟩
  | 14 => ⟨S16x2048x512, .f32⟩
  | 15 => ⟨S512x512x1, .f32⟩
  | 16 => ⟨S512x512, .f32⟩
  | 17 => ⟨S16x2048x512, .f32⟩
  | 18 => ⟨S16x2048x512, .f32⟩
  | 19 => ⟨S16x2048x512, .f32⟩
  | 20 => ⟨S512x512x1, .f32⟩
  | 21 => ⟨S512x512, .f32⟩
  | 22 => ⟨S16x2048x512, .f32⟩
  | 23 => ⟨S16x2048x512, .f32⟩
  | 24 => ⟨S1x1x512, .f32⟩
  | 25 => ⟨S16x2048x512, .f32⟩
  | 26 => ⟨S16x2048x512, .f32⟩
  | 27 => ⟨S_, .f32⟩
  | 28 => ⟨S16x2048x512, .f32⟩
  | 29 => ⟨S16x2048x512, .f32⟩
  | 30 => ⟨S512x1, .f32⟩
  | 31 => ⟨S16x2048x1, .f32⟩
  | 32 => ⟨S1x1x1, .f32⟩
  | 33 => ⟨S16x2048x1, .f32⟩
  | 34 => ⟨S16x2048x1, .f32⟩
  | 35 => ⟨S16x2048x1, .f32⟩
  | 36 => ⟨S16x2048x1, .f32⟩
  | 37 => ⟨S_, .f32⟩
  | 38 => ⟨S16x2048x1, .f32⟩
  | 39 => ⟨S16x2048x1, .f32⟩
  | 40 => ⟨S_, .f32⟩
  | 41 => ⟨S16x2048x1, .f32⟩
  | 42 => ⟨S16x2048x1, .f32⟩
  | 43 => ⟨S_, .f32⟩
  | 44 => ⟨S16x2048x1, .f32⟩
  | 45 => ⟨S16x2048x1, .f32⟩
  | 46 => ⟨S_, .f32⟩
  | 47 => ⟨S16x2048x1, .f32⟩
  | 48 => ⟨S16x2048x1, .f32⟩
  | 49 => ⟨S_, .f32⟩
  | 50 => ⟨S16x2048x1, .f32⟩
  | 51 => ⟨S16x2048x1, .f32⟩
  | 52 => ⟨S16x2048x1, .f32⟩
  | 53 => ⟨S16x2048x1, .f32⟩
  | 54 => ⟨S16x2048, .f32⟩
  | 55 => ⟨S_, .i32⟩
  | 56 => ⟨S16x256, .i32⟩
  | 57 => ⟨S16x256, .i1⟩
  | 58 => ⟨S16x256, .f32⟩
  | 59 => ⟨S_, .f32⟩
  | 60 => ⟨S16, .f32⟩
  | 61 => ⟨S_, .f32⟩
  | 62 => ⟨S16, .f32⟩
  | 63 => ⟨S16, .f32⟩
  | 64 => ⟨S16x1, .f32⟩
  | 65 => ⟨S16x2048, .f32⟩
  | 66 => ⟨S16x2048, .f32⟩
  | 67 => ⟨S_, .f32⟩
  | 68 => ⟨S16, .f32⟩
  | 69 => ⟨S_, .f32⟩
  | 70 => ⟨S16x512, .f32⟩
  | 71 => ⟨S2048x16, .f32⟩
  | 72 => ⟨S2048x16x512, .f32⟩
  | 73 => ⟨S_, .f32⟩
  | 74 => ⟨S2048x16, .f32⟩
  | 75 => ⟨S_, .f32⟩
  | 76 => ⟨S2048x16x512, .f32⟩
  | 77 => ⟨S_, .i32⟩
  | 78 => ⟨S2048x16, .f32⟩
  | 79 => ⟨S2048x16x512, .f32⟩
  | 80 => ⟨S_, .i32⟩
  | 81 => ⟨S16, .f32⟩
  | 82 => ⟨S16x512, .f32⟩
  | 83 => ⟨S2048x16, .f32⟩
  | 84 => ⟨S2048x16x512, .f32⟩
  | 85 => ⟨S_, .i32⟩
  | 86 => ⟨S_, .i1⟩
  | 87 => ⟨S_, .i32⟩
  | 88 => ⟨S1x16, .f32⟩
  | 89 => ⟨S16, .f32⟩
  | 90 => ⟨S_, .i32⟩
  | 91 => ⟨S_, .i32⟩
  | 92 => ⟨S1x16x512, .f32⟩
  | 93 => ⟨S16x512, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .i1⟩
  | 101 => ⟨S_, .f32⟩
  | 102 => ⟨S16, .f32⟩
  | 103 => ⟨S16, .f32⟩
  | 104 => ⟨S16, .f32⟩
  | 105 => ⟨S16, .f32⟩
  | 106 => ⟨S16, .f32⟩
  | 107 => ⟨S16x1, .f32⟩
  | 108 => ⟨S16x512, .f32⟩
  | 109 => ⟨S16x512, .f32⟩
  | 110 => ⟨S16x512, .f32⟩
  | 111 => ⟨S16x1, .i1⟩
  | 112 => ⟨S16x1, .f32⟩
  | 113 => ⟨S16x512, .f32⟩
  | 114 => ⟨S16x512, .f32⟩
  | 115 => ⟨S16x512, .i1⟩
  | 116 => ⟨S16x512, .f32⟩
  | 117 => ⟨S1x16, .f32⟩
  | 118 => ⟨S_, .i32⟩
  | 119 => ⟨S2048x16, .f32⟩
  | 120 => ⟨S1x16x512, .f32⟩
  | 121 => ⟨S_, .i32⟩
  | 122 => ⟨S_, .i32⟩
  | 123 => ⟨S2048x16x512, .f32⟩
  | 124 => ⟨S_, .i32⟩
  | 125 => ⟨S_, .i32⟩
  | 126 => ⟨S16x2048, .f32⟩
  | 127 => ⟨S16x2048x512, .f32⟩
  | _ => ⟨S16x2048x512, .f32⟩

abbrev hbmTy0_1 (i : Nat) : BufTy := match i % 128 with
  | 0 => ⟨S_, .f32⟩
  | 1 => ⟨S16x2048, .f32⟩
  | 2 => ⟨S16x2048, .i1⟩
  | 3 => ⟨S16x2048, .i32⟩
  | 4 => ⟨S_, .i32⟩
  | 5 => ⟨S_, .i32⟩
  | 6 => ⟨S16x2048, .i32⟩
  | 7 => ⟨S_, .i32⟩
  | 8 => ⟨S16x2048, .i32⟩
  | 9 => ⟨S16x2048, .i32⟩
  | 10 => ⟨S_, .i32⟩
  | 11 => ⟨S_, .i32⟩
  | 12 => ⟨S16x2048, .i32⟩
  | 13 => ⟨S16x2048, .i32⟩
  | 14 => ⟨S16, .i32⟩
  | 15 => ⟨S16x1, .i32⟩
  | 16 => ⟨S_, .f32⟩
  | 17 => ⟨S16x256x512, .f32⟩
  | 18 => ⟨S_, .i32⟩
  | 19 => ⟨S16x1, .i32⟩
  | 20 => ⟨S16x1, .i1⟩
  | 21 => ⟨S_, .i32⟩
  | 22 => ⟨S16x1, .i32⟩
  | 23 => ⟨S16x1, .i32⟩
  | 24 => ⟨S16x1, .i32⟩
  | 25 => ⟨S_, .i32⟩
  | 26 => ⟨S16x2048, .i32⟩
  | 27 => ⟨S16x2048, .i1⟩
  | 28 => ⟨S_, .i32⟩
  | 29 => ⟨S16x2048, .i32⟩
  | 30 => ⟨S16x2048, .i32⟩
  | 31 => ⟨S16x2048, .i32⟩
  | 32 => ⟨S16x2048, .i32⟩
  | 33 => ⟨S16x2048x1, .i32⟩
  | 34 => ⟨S16x2048x1, .i32⟩
  | 35 => ⟨S16x2048x2, .i32⟩
  | 36 => ⟨S16x256x512, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_cst : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_call2_cst : Ref sig .tc := ⟨.hbm, 49, rfl⟩
abbrev main_call2_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_c_10 : Ref sig .tc := ⟨.hbm, 77, rfl⟩
abbrev main_v53_0 : Ref sig .tc := ⟨.hbm, 78, rfl⟩
abbrev main_v53_1 : Ref sig .tc := ⟨.hbm, 79, rfl⟩
abbrev main_v53_2 : Ref sig .tc := ⟨.hbm, 80, rfl⟩
abbrev main_v53_3 : Ref sig .tc := ⟨.hbm, 81, rfl⟩
abbrev main_v53_4 : Ref sig .tc := ⟨.hbm, 82, rfl⟩
abbrev main_v53_5 : Ref sig .tc := ⟨.hbm, 83, rfl⟩
abbrev main_v53_6 : Ref sig .tc := ⟨.hbm, 84, rfl⟩
abbrev main_while0c_c_25 : Ref sig .tc := ⟨.hbm, 85, rfl⟩
abbrev main_while0c_v81 : Ref sig .tc := ⟨.hbm, 86, rfl⟩
abbrev main_while0b_call3_c : Ref sig .tc := ⟨.hbm, 87, rfl⟩
abbrev main_while0b_call3_v0 : Ref sig .tc := ⟨.hbm, 88, rfl⟩
abbrev main_while0b_v81 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_v0 : Ref sig .tc := ⟨.hbm, 92, rfl⟩
abbrev main_while0b_v82 : Ref sig .tc := ⟨.hbm, 93, rfl⟩
abbrev main_while0b_cst_25 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_cst_26 : Ref sig .tc := ⟨.hbm, 98, rfl⟩
abbrev main_while0b_v86 : Ref sig .tc := ⟨.hbm, 99, rfl⟩
abbrev main_while0b_v87 : Ref sig .tc := ⟨.hbm, 100, rfl⟩
abbrev main_while0b_cst_27 : Ref sig .tc := ⟨.hbm, 101, rfl⟩
abbrev main_while0b_v88 : Ref sig .tc := ⟨.hbm, 102, rfl⟩
abbrev main_while0b_v89 : Ref sig .tc := ⟨.hbm, 103, rfl⟩
abbrev main_while0b_v90 : Ref sig .tc := ⟨.hbm, 104, rfl⟩
abbrev main_while0b_v91 : Ref sig .tc := ⟨.hbm, 105, rfl⟩
abbrev main_while0b_v92 : Ref sig .tc := ⟨.hbm, 106, rfl⟩
abbrev main_while0b_v93 : Ref sig .tc := ⟨.hbm, 107, rfl⟩
abbrev main_while0b_v94 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_v100 : Ref sig .tc := ⟨.hbm, 114, rfl⟩
abbrev main_while0b_call7_v0 : Ref sig .tc := ⟨.hbm, 115, rfl⟩
abbrev main_while0b_v101 : Ref sig .tc := ⟨.hbm, 116, rfl⟩
abbrev main_while0b_call8_v0 : Ref sig .tc := ⟨.hbm, 117, rfl⟩
abbrev main_while0b_call8_c : Ref sig .tc := ⟨.hbm, 118, rfl⟩
abbrev main_while0b_v102 : Ref sig .tc := ⟨.hbm, 119, rfl⟩
abbrev main_while0b_call9_v0 : Ref sig .tc := ⟨.hbm, 120, rfl⟩
abbrev main_while0b_call9_c : Ref sig .tc := ⟨.hbm, 121, rfl⟩
abbrev main_while0b_call9_c_0 : Ref sig .tc := ⟨.hbm, 122, rfl⟩
abbrev main_while0b_v103 : Ref sig .tc := ⟨.hbm, 123, rfl⟩
abbrev main_while0b_c_28 : Ref sig .tc := ⟨.hbm, 124, rfl⟩
abbrev main_while0b_v104 : Ref sig .tc := ⟨.hbm, 125, rfl⟩
abbrev main_v54 : Ref sig .tc := ⟨.hbm, 126, rfl⟩
abbrev main_v55 : Ref sig .tc := ⟨.hbm, 127, rfl⟩
abbrev main_cst_11 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_call10_call0_c : Ref sig .tc := ⟨.hbm, 132, rfl⟩
abbrev main_call10_call0_v0 : Ref sig .tc := ⟨.hbm, 133, rfl⟩
abbrev main_v59 : Ref sig .tc := ⟨.hbm, 134, rfl⟩
abbrev main_c_12 : Ref sig .tc := ⟨.hbm, 135, rfl⟩
abbrev main_v60 : Ref sig .tc := ⟨.hbm, 136, rfl⟩
abbrev main_v61 : Ref sig .tc := ⟨.hbm, 137, rfl⟩
abbrev main_c_13 : Ref sig .tc := ⟨.hbm, 138, rfl⟩
abbrev main_call11_v0 : Ref sig .tc := ⟨.hbm, 139, rfl⟩
abbrev main_call11_v1 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_cst_14 : Ref sig .tc := ⟨.hbm, 144, rfl⟩
abbrev main_v65 : Ref sig .tc := ⟨.hbm, 145, rfl⟩
abbrev main_c_15 : Ref sig .tc := ⟨.hbm, 146, rfl⟩
abbrev main_v66 : Ref sig .tc := ⟨.hbm, 147, rfl⟩
abbrev main_v67 : Ref sig .tc := ⟨.hbm, 148, rfl⟩
abbrev main_c_16 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_c_17 : Ref sig .tc := ⟨.hbm, 153, rfl⟩
abbrev main_v71 : Ref sig .tc := ⟨.hbm, 154, rfl⟩
abbrev main_v72 : Ref sig .tc := ⟨.hbm, 155, rfl⟩
abbrev main_c_18 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩

abbrev nD : Nat := 1
abbrev τ : Topo := Topo.v7x

variable {F : FTy → Type} [FloatOps F]

abbrev main_while0_count : Scf.Loop 32 := ⟨0#32, 2048#32, 1#32⟩
-- ==== Proof.KernelIdeal.Alpha.lean ====
/-
  The first pallas_call (the convolution and the sigmoid, one batch row per grid point): what its body leaves in
  the output block, as a function of the input blocks, and the obligation its pipeline puts on the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WritesUnit
public import Idealize.ShloMosaic.Lib.Tactic
public import Idealize.ShloMosaic.Lib.WordCmp
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x2048x512 := Rect.unit (s := S1x2048x512) ![0, 0, 0] S1x2048x512.size inb_S1x2048x512_S1x2048x512_0_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S1x1 := Rect.unit (s := S1x1) ![0, 0] S1x1.size inb_S1x1_S1x1_0_0
abbrev r0_4 : Rect S1x1x2048 := Rect.unit (s := S1x1x2048) ![0, 0, 0] S1x1x2048.size inb_S1x1x2048_S1x1x2048_0_0_0

/-! ## What the body leaves in each output window's buffer -/

/-- Window 8's staging buffer after the body, from the input windows' blocks: its 1 store as pieces, LAST
    FIRST (Lib/Pipeline/FrameBody.lean `View.canon`; the payloads are the skeleton's). -/
def out0_8 (x0 : Vec F S1x2048x512 .f32) (x1 : Vec F S512x512 .f32) (x2 : Vec F S512x512 .f32) (x3 : Vec F S512x512 .f32) (x4 : Vec F S1x512 .f32) (x5 : Vec F S1x512 .f32) (x6 : Vec F S1x1 .f32) (x7 : Vec F S1x1x2048 .f32) : Vec F S1x1x2048 .f32 :=
  View.canon [⟨r0_4, k0_pay1 (k0_pay2 (View.ld x0 r0_0) (View.ld x1 r0_1) (View.ld x2 r0_1) (View.ld x3 r0_1) (View.ld x4 r0_2) (View.ld x5 r0_2) (View.ld x6 r0_3)) (View.ld x7 r0_4)⟩]

/-- Its stores tile the buffer (checked by evaluation), so they cover it. -/
theorem cover0_8 (p0 : Vec F S1x1x2048 .f32) (y : S1x1x2048.Idx) :
    ∃ pc ∈ ([⟨r0_4, p0⟩] : List (View.Piece (Elt F) S1x1x2048 .f32)), y ∈ pc.1.set :=
  View.cover_of_tiled [⟨r0_4, p0⟩] S1x1x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x2048x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1x2048 .f32) (harg8 : arg8.IsWhole) (arg9 : Memref sig .tc .vmem S1x1x2048 .f32) (harg9 : arg9.IsWhole)
    (x0 : Vec F S1x2048x512 .f32) (x1 : Vec F S512x512 .f32) (x2 : Vec F S512x512 .f32) (x3 : Vec F S512x512 .f32) (x4 : Vec F S1x512 .f32) (x5 : Vec F S1x512 .f32) (x6 : Vec F S1x1 .f32) (x7 : Vec F S1x1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__alpha_kernel i arg1 harg1 arg2 harg2 arg3 harg3 arg4 harg4 arg5 harg5 arg6 harg6 arg7 harg7 arg8 harg8 arg9 harg9) K := by
  simp only [cc0__alpha_kernel_eq_skeleton]; unfold cc0__alpha_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdeal.Scan.lean ====
/-
  The second pallas_call (the integrate-and-fire scan, one counted loop over the 2048 frames): the recurrence, the
  arrays its trips leave behind, the loop by its invariant, and the obligation its pipeline puts on the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WritesUnit
public import Idealize.ShloMosaic.Lib.Tactic
public import Idealize.ShloMosaic.Lib.WordCmp
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The recurrence, and what each trip stores -/

/-- Row `k` of the `2048 × 16` block as a `1 × 16` vector (the last row for `k` past the end, never asked for). -/
def rowAt (X : Vec F S2048x16 .f32) (k : ℕ) : Vec F S1x16 .f32 := fun j => X (ix2 ⟨min k 2047, by omega⟩ (j 1))

/-- The two carried values before trip `k`: the integral and the number of fires so far, per batch column. -/
def scanState (X : Vec F S2048x16 .f32) (sc : Vec F S1x16 .f32) : ℕ → FVec F S16 .f32 × IVec S16 32
  | 0 => (k1_pay1, k1_pay2)
  | k + 1 => (k1_pay12 sc (scanState X sc k).1 (rowAt X k), k1_pay13 sc (scanState X sc k).1 (scanState X sc k).2 (rowAt X k))

/-- The scaled weights: what the loop leaves in the first output. -/
def scanAlpha (X : Vec F S2048x16 .f32) (sc : Vec F S1x16 .f32) : Vec F S2048x16 .f32 :=
  fun y => k1_pay4 sc (rowAt X (y 0).val) (ix2 0 (y 1))
/-- The integral after adding the weight, before one is taken off: the second output. -/
def scanFire (X : Vec F S2048x16 .f32) (sc : Vec F S1x16 .f32) : Vec F S2048x16 .f32 :=
  fun y => k1_pay6 sc (scanState X sc (y 0).val).1 (rowAt X (y 0).val) (ix2 0 (y 1))
/-- The part of the weight that goes to the label under way: the third output. -/
def scanU (X : Vec F S2048x16 .f32) (sc : Vec F S1x16 .f32) : Vec F S2048x16 .f32 :=
  fun y => k1_pay9 sc (scanState X sc (y 0).val).1 (rowAt X (y 0).val) (ix2 0 (y 1))
/-- The part that goes to the next label: the fourth output. -/
def scanV (X : Vec F S2048x16 .f32) (sc : Vec F S1x16 .f32) : Vec F S2048x16 .f32 :=
  fun y => k1_pay10 sc (scanState X sc (y 0).val).1 (rowAt X (y 0).val) (ix2 0 (y 1))
/-- The number of the label under way: the fifth output. -/
def scanSlot (X : Vec F S2048x16 .f32) (sc : Vec F S1x16 .f32) : Vec F S2048x16 .i32 :=
  fun y => k1_pay11 (scanState X sc (y 0).val).2 (ix2 0 (y 1))
/-- The number of fires in all: the last output. -/
def scanCount (X : Vec F S2048x16 .f32) (sc : Vec F S1x16 .f32) : Vec F S1x16 .i32 := k1_pay14 (scanState X sc 2048).2

/-- The loop makes 2048 trips. -/
theorem trips_eq : k1_t1_loop.trips = 2048 := by decide +kernel

section Rows
variable {e : EltTy}
/-- Storing row `k` over contents that already read `G` on the rows before `k` gives contents that read `G` up to row `k`
    included, when the stored row is `G`'s. -/
theorem rows_step (v : View sig .tc .vmem S2048x16 e) (f : v.ty.Contents (Elt F)) (k : Fin k1_t1_loop.trips)
    (w : S1x16.Idx → Elt F e) (G : S2048x16.Idx → Elt F e)
    (hf : ∀ y : S2048x16.Idx, (y 0).val < k.val → v.read (Elt F) f y = G y)
    (hw : ∀ y : S2048x16.Idx, (y 0).val = k.val → w (ix2 0 (y 1)) = G y) (y : S2048x16.Idx) (hy : (y 0).val < k.val + 1) :
    v.read (Elt F) (v.writes (Elt F) f [⟨Rect.unit (s := S2048x16) (k1_off1 k) S1x16.size (k1_off1_inb k), w⟩]) y = G y := by
  by_cases h : (y 0).val = k.val
  · refine (View.read_writes_cons_unit_of_mem v f (k1_off1_inb k) w [] y (ix2 0 (y 1) : S1x16.Idx) (k1_off1_eq k) ?_).trans (hw y h)
    intro a
    fin_cases a
    · show (y 0).val = k.val + 0
      omega
    · show (y 1).val = 0 + (y 1).val
      omega
  · refine (View.read_writes_cons_unit_of_not_mem v f (k1_off1_inb k) w [] y (k1_off1_eq k) 0 ?_).trans (hf y (by omega))
    left
    show (y 0).val < k.val
    omega
end Rows

/-- The loop's invariant before trip `k`: the input block in place, every output reading its array on the rows before
    `k`, and the carried values the recurrence's. -/
def scanInv (c : Dev nD) (arg0 : Memref sig .tc .vmem S2048x16 .f32) (harg0 : arg0.IsWhole) (arg1 : Memref sig .tc .vmem S1x16 .f32) (harg1 : arg1.IsWhole) (arg2 : Memref sig .tc .vmem S2048x16 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .i32) (harg6 : arg6.IsWhole) (f0 : arg0.view.ty.Contents (Elt F)) (sc : Vec F S1x16 .f32) (k : ℕ) (acc : FVec F S16 .f32 × IVec S16 32) : sProp 𝕄 :=
  iprop((arg0.view.loc (c : Thread nD τ) ↦[arg0.view.set]{fullShare} f0)
    ∗ (∃ f, (arg2.view.loc (c : Thread nD τ) ↦[arg2.view.set]{fullShare} f) ∗ ⌜∀ y : S2048x16.Idx, (y 0).val < k → arg2.view.read (Elt F) f y = scanAlpha (arg0.view.read (Elt F) f0) sc y⌝)
    ∗ (∃ f, (arg3.view.loc (c : Thread nD τ) ↦[arg3.view.set]{fullShare} f) ∗ ⌜∀ y : S2048x16.Idx, (y 0).val < k → arg3.view.read (Elt F) f y = scanFire (arg0.view.read (Elt F) f0) sc y⌝)
    ∗ (∃ f, (arg4.view.loc (c : Thread nD τ) ↦[arg4.view.set]{fullShare} f) ∗ ⌜∀ y : S2048x16.Idx, (y 0).val < k → arg4.view.read (Elt F) f y = scanU (arg0.view.read (Elt F) f0) sc y⌝)
    ∗ (∃ f, (arg5.view.loc (c : Thread nD τ) ↦[arg5.view.set]{fullShare} f) ∗ ⌜∀ y : S2048x16.Idx, (y 0).val < k → arg5.view.read (Elt F) f y = scanV (arg0.view.read (Elt F) f0) sc y⌝)
    ∗ (∃ f, (arg6.view.loc (c : Thread nD τ) ↦[arg6.view.set]{fullShare} f) ∗ ⌜∀ y : S2048x16.Idx, (y 0).val < k → arg6.view.read (Elt F) f y = scanSlot (arg0.view.read (Elt F) f0) sc y⌝)
    ∗ ⌜acc = scanState (arg0.view.read (Elt F) f0) sc k⌝)

set_option maxHeartbeats 1000000 in
/-- One trip keeps the invariant. -/
theorem scan_step (c : Dev nD) (E : Set ℕ) (arg0 : Memref sig .tc .vmem S2048x16 .f32) (harg0 : arg0.IsWhole) (arg1 : Memref sig .tc .vmem S1x16 .f32) (harg1 : arg1.IsWhole) (arg2 : Memref sig .tc .vmem S2048x16 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .i32) (harg6 : arg6.IsWhole) (arg7 : Memref sig .tc .vmem S1x16 .i32) (harg7 : arg7.IsWhole) (f0 : arg0.view.ty.Contents (Elt F)) (sc : Vec F S1x16 .f32) (k : Fin k1_t1_loop.trips) (acc : FVec F S16 .f32 × IVec S16 32) :
    scanInv c arg0 harg0 arg1 harg1 arg2 harg2 arg3 harg3 arg4 harg4 arg5 harg5 arg6 harg6 f0 sc k.val acc
      ⊢ wp frame (wpE (defs₀ (F := F)) Variants.none c none) E (k1_t1_body (F := F) arg0 harg0 arg1 harg1 arg2 harg2 arg3 harg3 arg4 harg4 arg5 harg5 arg6 harg6 arg7 harg7 sc k acc)
        (fun r => scanInv c arg0 harg0 arg1 harg1 arg2 harg2 arg3 harg3 arg4 harg4 arg5 harg5 arg6 harg6 f0 sc (k.val + 1) r) := by
  have hk : k.val < 2048 := Nat.lt_of_lt_of_le k.isLt k1_t1_abs.2.1
  have hrow : arg0.view.readAt (Elt F) (Rect.unit (s := S2048x16) (k1_off1 k) S1x16.size (k1_off1_inb k)).toLoadRect f0
      = rowAt (arg0.view.read (Elt F) f0) k.val := by
    funext j
    show arg0.view.read (Elt F) f0 _ = arg0.view.read (Elt F) f0 _
    congr 1
    have h0 : k1_off1 k 0 = k.val := congrFun (k1_off1_eq k) 0
    have h1 : k1_off1 k 1 = 0 := congrFun (k1_off1_eq k) 1
    have hj : (j 0).val = 0 := by have := (j 0).isLt; simpa using this
    funext a
    apply Fin.ext
    fin_cases a
    · show k1_off1 k 0 + 1 * (j 0).val = min k.val 2047
      omega
    · show k1_off1 k 1 + 1 * (j 1).val = (j 1).val
      omega
  unfold scanInv
  unfold k1_t1_body
  iintro ⟨H0, ⟨%f2, H2, %h2⟩, ⟨%f3, H3, %h3⟩, ⟨%f4, H4, %h4⟩, ⟨%f5, H5, %h5⟩, ⟨%f6, H6, %h6⟩, %hacc⟩
  subst hacc
  sl_exec
  sl_step
  isplitl [H0]; · iexact H0
  isplitl [H2]
  · iexists _; isplitl [H2]; · iexact H2
    ipureintro
    intro y hy
    refine rows_step arg2.view f2 k _ _ h2 ?_ y hy
    intro y hy
    unfold scanAlpha
    simp only [hy]
    try rw [← hrow]
  isplitl [H3]
  · iexists _; isplitl [H3]; · iexact H3
    ipureintro
    intro y hy
    refine rows_step arg3.view f3 k _ _ h3 ?_ y hy
    intro y hy
    unfold scanFire
    simp only [hy]
    try rw [← hrow]
  isplitl [H4]
  · iexists _; isplitl [H4]; · iexact H4
    ipureintro
    intro y hy
    refine rows_step arg4.view f4 k _ _ h4 ?_ y hy
    intro y hy
    unfold scanU
    simp only [hy]
    try rw [← hrow]
  isplitl [H5]
  · iexists _; isplitl [H5]; · iexact H5
    ipureintro
    intro y hy
    refine rows_step arg5.view f5 k _ _ h5 ?_ y hy
    intro y hy
    unfold scanV
    simp only [hy]
    try rw [← hrow]
  isplitl [H6]
  · iexists _; isplitl [H6]; · iexact H6
    ipureintro
    intro y hy
    refine rows_step arg6.view f6 k _ _ h6 ?_ y hy
    intro y hy
    unfold scanSlot
    simp only [hy]
    try rw [← hrow]
  ipureintro
  rw [scanState, ← hrow]

set_option maxHeartbeats 1000000 in
/-- The body on whole staging memrefs, the two inputs' at `x0` and `x1`, runs to the continuation holding the inputs' as they
    were and each output's at its array. -/
theorem sound_kernel1 (c : Dev nD) (E : Set ℕ) (arg0 : Memref sig .tc .vmem S2048x16 .f32) (harg0 : arg0.IsWhole) (arg1 : Memref sig .tc .vmem S1x16 .f32) (harg1 : arg1.IsWhole) (arg2 : Memref sig .tc .vmem S2048x16 .f32) (harg2 : arg2.IsWhole) (arg3 : Memref sig .tc .vmem S2048x16 .f32) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .i32) (harg6 : arg6.IsWhole) (arg7 : Memref sig .tc .vmem S1x16 .i32) (harg7 : arg7.IsWhole) (x0 : Vec F S2048x16 .f32) (x1 : Vec F S1x16 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (iprop(owns (c : Thread nD τ) arg0 fullShare x0 ∗ owns (c : Thread nD τ) arg1 fullShare x1 ∗ owns (c : Thread nD τ) arg2 fullShare (scanAlpha x0 x1) ∗ owns (c : Thread nD τ) arg3 fullShare (scanFire x0 x1) ∗ owns (c : Thread nD τ) arg4 fullShare (scanU x0 x1) ∗ owns (c : Thread nD τ) arg5 fullShare (scanV x0 x1) ∗ owns (c : Thread nD τ) arg6 fullShare (scanSlot x0 x1) ∗ owns (c : Thread nD τ) arg7 fullShare (scanCount x0 x1)) -∗ K ⟨⟩))
      ⊢ wp frame (wpE (defs₀ (F := F)) Variants.none c none) E (cc1__scan_kernel arg0 harg0 arg1 harg1 arg2 harg2 arg3 harg3 arg4 harg4 arg5 harg5 arg6 harg6 arg7 harg7) K := by
  simp only [cc1__scan_kernel_eq_skeleton]; unfold cc1__scan_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  subst hf0 hf1
  sl_exec
  have hx1 : arg1.view.readAt (Elt F) (Rect.unit (s := S1x16) ![0, 0] S1x16.size inb_S1x16_S1x16_0_0).toLoadRect f1 = arg1.view.read (Elt F) f1 := by
    funext j
    show arg1.view.read (Elt F) f1 _ = arg1.view.read (Elt F) f1 _
    congr 1
    funext a
    apply Fin.ext
    fin_cases a
    · show 0 + 1 * (j 0).val = (j 0).val
      omega
    · show 0 + 1 * (j 1).val = (j 1).val
      omega
  rw [hx1]
  sl_for (scanInv c arg0 harg0 arg1 harg1 arg2 harg2 arg3 harg3 arg4 harg4 arg5 harg5 arg6 harg6 f0 (arg1.view.read (Elt F) f1)) $$ [H0 H2 H3 H4 H5 H6]
  · intro k acc
    exact scan_step c E arg0 harg0 arg1 harg1 arg2 harg2 arg3 harg3 arg4 harg4 arg5 harg5 arg6 harg6 arg7 harg7 f0 (arg1.view.read (Elt F) f1) k acc
  · unfold scanInv
    isplitl [H0]; · iexact H0
    isplitl [H2]
    · iexists _; isplitl [H2]; · iexact H2
      ipureintro; intro y hy; exact absurd hy (Nat.not_lt_zero _)
    isplitl [H3]
    · iexists _; isplitl [H3]; · iexact H3
      ipureintro; intro y hy; exact absurd hy (Nat.not_lt_zero _)
    isplitl [H4]
    · iexists _; isplitl [H4]; · iexact H4
      ipureintro; intro y hy; exact absurd hy (Nat.not_lt_zero _)
    isplitl [H5]
    · iexists _; isplitl [H5]; · iexact H5
      ipureintro; intro y hy; exact absurd hy (Nat.not_lt_zero _)
    isplitl [H6]
    · iexists _; isplitl [H6]; · iexact H6
      ipureintro; intro y hy; exact absurd hy (Nat.not_lt_zero _)
    ipureintro; rfl
  iintro %acc HI
  unfold scanInv
  icases HI with ⟨H0, ⟨%g2, H2, %h2⟩, ⟨%g3, H3, %h3⟩, ⟨%g4, H4, %h4⟩, ⟨%g5, H5, %h5⟩, ⟨%g6, H6, %h6⟩, %hacc⟩
  subst hacc
  sl_exec
  sl_step
  iapply Hk
  have ht : ∀ y : S2048x16.Idx, (y 0).val < k1_t1_loop.trips := fun y => by rw [trips_eq]; exact (y 0).isLt
  isplitl [H0]
  · iexists f0; isplitr; · ipureintro; rfl
    iexact H0
  isplitl [H1]
  · iexists f1; isplitr; · ipureintro; rfl
    iexact H1
  isplitl [H2]
  · iexists g2; isplitr; · ipureintro; exact funext fun y => h2 y (ht y)
    iexact H2
  isplitl [H3]
  · iexists g3; isplitr; · ipureintro; exact funext fun y => h3 y (ht y)
    iexact H3
  isplitl [H4]
  · iexists g4; isplitr; · ipureintro; exact funext fun y => h4 y (ht y)
    iexact H4
  isplitl [H5]
  · iexists g5; isplitr; · ipureintro; exact funext fun y => h5 y (ht y)
    iexact H5
  isplitl [H6]
  · iexists g6; isplitr; · ipureintro; exact funext fun y => h6 y (ht y)
    iexact H6
  iexists _; isplitr
  swap; · iexact H7
  ipureintro
  funext y
  refine (View.read_writes_cons_unit_of_mem arg7.view f7 inb_S1x16_S1x16_0_0 _ [] y y rfl ?_).trans ?_
  · intro a
    fin_cases a
    · show (y 0).val = 0 + (y 0).val
      omega
    · show (y 1).val = 0 + (y 1).val
      omega
  · unfold scanCount
    rw [← trips_eq]

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
abbrev ms1_0 (t : Fin cfg1.N) : Memref sig .tc .vmem S2048x16 .f32 := win1_0.stage (cfg1.slots t 0)
abbrev hs1_0 (t : Fin cfg1.N) : (ms1_0 t).IsWhole := hstage1_0 0
abbrev ms1_1 (t : Fin cfg1.N) : Memref sig .tc .vmem S1x16 .f32 := win1_1.stage (cfg1.slots t 1)
abbrev hs1_1 (t : Fin cfg1.N) : (ms1_1 t).IsWhole := hstage1_1 0
abbrev ms1_2 (t : Fin cfg1.N) : Memref sig .tc .vmem S2048x16 .f32 := win1_2.stage (cfg1.slots t 2)
abbrev hs1_2 (t : Fin cfg1.N) : (ms1_2 t).IsWhole := hstage1_2 0
abbrev ms1_3 (t : Fin cfg1.N) : Memref sig .tc .vmem S2048x16 .f32 := win1_3.stage (cfg1.slots t 3)
abbrev hs1_3 (t : Fin cfg1.N) : (ms1_3 t).IsWhole := hstage1_3 0
abbrev ms1_4 (t : Fin cfg1.N) : Memref sig .tc .vmem S2048x16 .f32 := win1_4.stage (cfg1.slots t 4)
abbrev hs1_4 (t : Fin cfg1.N) : (ms1_4 t).IsWhole := hstage1_4 0
abbrev ms1_5 (t : Fin cfg1.N) : Memref sig .tc .vmem S2048x16 .f32 := win1_5.stage (cfg1.slots t 5)
abbrev hs1_5 (t : Fin cfg1.N) : (ms1_5 t).IsWhole := hstage1_5 0
abbrev ms1_6 (t : Fin cfg1.N) : Memref sig .tc .vmem S2048x16 .i32 := win1_6.stage (cfg1.slots t 6)
abbrev hs1_6 (t : Fin cfg1.N) : (ms1_6 t).IsWhole := hstage1_6 0
abbrev ms1_7 (t : Fin cfg1.N) : Memref sig .tc .vmem S1x16 .i32 := win1_7.stage (cfg1.slots t 7)
abbrev hs1_7 (t : Fin cfg1.N) : (ms1_7 t).IsWhole := hstage1_7 0

/-! ## The pipeline's proof data -/

/-- The proof data of the scan's pipeline on core `c`: the arrays as the region finds them; after the body each input's
    buffer at its block and each output's at its array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scanAlpha (iblk1 V c 0 t) (iblk1 V c 1 t)
    | ⟨3, _⟩ => scanFire (iblk1 V c 0 t) (iblk1 V c 1 t)
    | ⟨4, _⟩ => scanU (iblk1 V c 0 t) (iblk1 V c 1 t)
    | ⟨5, _⟩ => scanV (iblk1 V c 0 t) (iblk1 V c 1 t)
    | ⟨6, _⟩ => scanSlot (iblk1 V c 0 t) (iblk1 V c 1 t)
    | ⟨7, _⟩ => scanCount (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scanAlpha (iblk1 V c 0 t) (iblk1 V c 1 t) := by dsimp only [dat1]
theorem after1_3 (c : Dev nD) (t : Fin cfg1.N) : (dat1 V c).after 3 t = scanFire (iblk1 V c 0 t) (iblk1 V c 1 t) := by dsimp only [dat1]
theorem after1_4 (c : Dev nD) (t : Fin cfg1.N) : (dat1 V c).after 4 t = scanU (iblk1 V c 0 t) (iblk1 V c 1 t) := by dsimp only [dat1]
theorem after1_5 (c : Dev nD) (t : Fin cfg1.N) : (dat1 V c).after 5 t = scanV (iblk1 V c 0 t) (iblk1 V c 1 t) := by dsimp only [dat1]
theorem after1_6 (c : Dev nD) (t : Fin cfg1.N) : (dat1 V c).after 6 t = scanSlot (iblk1 V c 0 t) (iblk1 V c 1 t) := by dsimp only [dat1]
theorem after1_7 (c : Dev nD) (t : Fin cfg1.N) : (dat1 V c).after 7 t = scanCount (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KernelIdeal.Embed.lean ====
/-
  The third pallas_call (the weighted sums of the frames, four frame tiles per batch row accumulated in the output
  block): what one point adds, the running sum after each point, and the obligation its pipeline puts on the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WritesUnit
public import Idealize.ShloMosaic.Lib.Tactic
public import Idealize.ShloMosaic.Lib.WordCmp
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point adds, and what it leaves -/

abbrev r2_h : Rect S1x512x512 := Rect.unit (s := S1x512x512) ![0, 0, 0] S1x512x512.size inb_S1x512x512_S1x512x512_0_0_0
abbrev r2_row : Rect S1x1x512 := Rect.unit (s := S1x1x512) ![0, 0, 0] S1x1x512.size inb_S1x1x512_S1x1x512_0_0_0
abbrev r2_msk : Rect S1x1x256 := Rect.unit (s := S1x1x256) ![0, 0, 0] S1x1x256.size inb_S1x1x256_S1x1x256_0_0_0
abbrev r2_out : Rect S1x256x512 := Rect.unit (s := S1x256x512) ![0, 0, 0] S1x256x512.size inb_S1x256x512_S1x256x512_0_0_0

/-- What the first of a batch row's four points leaves in the output block: the product of its own frames. -/
def embFirst (x0 : Vec F S1x512x512 .f32) (x1 : Vec F S1x1x512 .f32) (x2 : Vec F S1x1x512 .f32) (x3 : Vec F S1x1x512 .i32) (x4 : Vec F S1x1x256 .f32) : Vec F S1x256x512 .f32 :=
  k2_pay2 (k2_pay6 (View.ld x3 r2_row) (View.ld x1 r2_row) (View.ld x2 r2_row) (View.ld x4 r2_msk)) (k2_pay7 (View.ld x3 r2_row) (View.ld x1 r2_row) (View.ld x2 r2_row) (View.ld x4 r2_msk)) (k2_pay8 (View.ld x0 r2_h)) (k2_pay9 (View.ld x0 r2_h)) (k2_pay10 (View.ld x3 r2_row) (View.ld x1 r2_row) (View.ld x2 r2_row) (View.ld x4 r2_msk) (View.ld x0 r2_h))
/-- What a later point leaves: the same product added to what the block held. -/
def embNext (x0 : Vec F S1x512x512 .f32) (x1 : Vec F S1x1x512 .f32) (x2 : Vec F S1x1x512 .f32) (x3 : Vec F S1x1x512 .i32) (x4 : Vec F S1x1x256 .f32) (acc : Vec F S1x256x512 .f32) : Vec F S1x256x512 .f32 :=
  k2_pay3 (k2_pay6 (View.ld x3 r2_row) (View.ld x1 r2_row) (View.ld x2 r2_row) (View.ld x4 r2_msk)) (k2_pay7 (View.ld x3 r2_row) (View.ld x1 r2_row) (View.ld x2 r2_row) (View.ld x4 r2_msk)) (k2_pay8 (View.ld x0 r2_h)) (k2_pay9 (View.ld x0 r2_h)) (k2_pay10 (View.ld x3 r2_row) (View.ld x1 r2_row) (View.ld x2 r2_row) (View.ld x4 r2_msk) (View.ld x0 r2_h)) (View.ld acc r2_out)

/-- A store of the whole output block is read back as what was stored. -/
theorem read_whole (v : View sig .tc .vmem S1x256x512 .f32) (f : v.ty.Contents (Elt F)) (w : S1x256x512.Idx → Elt F .f32) :
    v.read (Elt F) (v.writes (Elt F) f [⟨r2_out, w⟩]) = w := by
  funext y
  refine View.read_writes_cons_unit_of_mem v f inb_S1x256x512_S1x256x512_0_0_0 w [] y y rfl ?_
  intro a
  fin_cases a
  · show (y 0).val = 0 + (y 0).val
    omega
  · show (y 1).val = 0 + (y 1).val
    omega
  · show (y 2).val = 0 + (y 2).val
    omega

set_option maxHeartbeats 1000000 in
/-- The body at a first point of a batch row: the output block is stored from nothing. -/
theorem sound_kernel2_first (c : Dev nD) (E : Set ℕ) (i : grid2.Coords) (h1 : k2_cond1 i = 1#1) (h2 : ¬ k2_cond2 i = 1#1) (arg2 : Memref sig .tc .vmem S1x512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x512 .i32) (harg5 : arg5.IsWhole) (arg6 : Memref sig .tc .vmem S1x1x256 .f32) (harg6 : arg6.IsWhole) (arg7 : Memref sig .tc .vmem S1x256x512 .f32) (harg7 : arg7.IsWhole) (x0 : Vec F S1x512x512 .f32) (x1 : Vec F S1x1x512 .f32) (x2 : Vec F S1x1x512 .f32) (x3 : Vec F S1x1x512 .i32) (x4 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (embFirst x0 x1 x2 x3 x4)) -∗ K ⟨⟩))
      ⊢ wp frame (wpE (defs₀ (F := F)) Variants.none c none) E (cc2__embed_kernel i arg2 harg2 arg3 harg3 arg4 harg4 arg5 harg5 arg6 harg6 arg7 harg7) K := by
  simp only [cc2__embed_kernel_eq_skeleton]; unfold cc2__embed_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact read_whole _ _ _

set_option maxHeartbeats 1000000 in
/-- The body at a later point: the output block is read, added to and stored. -/
theorem sound_kernel2_next (c : Dev nD) (E : Set ℕ) (i : grid2.Coords) (h1 : ¬ k2_cond1 i = 1#1) (h2 : k2_cond2 i = 1#1) (arg2 : Memref sig .tc .vmem S1x512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x512 .i32) (harg5 : arg5.IsWhole) (arg6 : Memref sig .tc .vmem S1x1x256 .f32) (harg6 : arg6.IsWhole) (arg7 : Memref sig .tc .vmem S1x256x512 .f32) (harg7 : arg7.IsWhole) (x0 : Vec F S1x512x512 .f32) (x1 : Vec F S1x1x512 .f32) (x2 : Vec F S1x1x512 .f32) (x3 : Vec F S1x1x512 .i32) (x4 : Vec F S1x1x256 .f32) (acc : Vec F S1x256x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare acc ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (embNext x0 x1 x2 x3 x4 acc)) -∗ K ⟨⟩))
      ⊢ wp frame (wpE (defs₀ (F := F)) Variants.none c none) E (cc2__embed_kernel i arg2 harg2 arg3 harg3 arg4 harg4 arg5 harg5 arg6 harg6 arg7 harg7) K := by
  simp only [cc2__embed_kernel_eq_skeleton]; unfold cc2__embed_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact read_whole _ _ _

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-! ## The pipeline's proof data -/

/-- The output block after the body at point `n` (four points to a batch row, the first of which starts afresh). -/
def embAt (c : Dev nD) : (n : ℕ) → (h : n < cfg2.N) → Vec F S1x256x512 .f32
  | 0, h => embFirst (iblk2 V c 0 ⟨0, h⟩) (iblk2 V c 1 ⟨0, h⟩) (iblk2 V c 2 ⟨0, h⟩) (iblk2 V c 3 ⟨0, h⟩) (iblk2 V c 4 ⟨0, h⟩)
  | n + 1, h => if (n + 1) % 4 = 0 then embFirst (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
      else embNext (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (embAt c n (Nat.lt_of_succ_lt h))

theorem embAt_first (c : Dev nD) (t : Fin cfg2.N) (h : t.val % 4 = 0) : embAt V c t.val t.isLt = embFirst (iblk2 V c 0 t) (iblk2 V c 1 t) (iblk2 V c 2 t) (iblk2 V c 3 t) (iblk2 V c 4 t) := by
  obtain ⟨n, hn⟩ := t
  cases n with
  | zero => rfl
  | succ n => exact if_pos h

theorem embAt_next (c : Dev nD) (t : Fin cfg2.N) (h : t.val % 4 ≠ 0) :
    embAt V c t.val t.isLt = embNext (iblk2 V c 0 t) (iblk2 V c 1 t) (iblk2 V c 2 t) (iblk2 V c 3 t) (iblk2 V c 4 t) (embAt V c (t.val - 1) (Nat.lt_of_le_of_lt (Nat.sub_le _ _) t.isLt)) := by
  obtain ⟨n, hn⟩ := t
  cases n with
  | zero => exact absurd rfl h
  | succ n => exact if_neg h

/-- The proof data of the embedding's pipeline on core `c`: after the body each input's buffer at its block and the output's
    at the running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => embAt V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = embAt V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- Some branch is taken at every point. -/
theorem idle2_5 : ∀ i : grid2.Coords, cfg2.idle 5 i = false := by decide +kernel
/-- At a later point the output's buffer holds what the point before left. -/
theorem before2_5 (c : Dev nD) (t : Fin cfg2.N) (h : t.val % 4 ≠ 0) (d) :
    (dat2 V c).before 5 t d = embAt V c (t.val - 1) (Nat.lt_of_le_of_lt (Nat.sub_le _ _) t.isLt) := by
  have ht : t.val ≠ 0 := fun h0 => h (by rw [h0])
  rw [(dat2 V c).before_out_kept 5 rfl t ht ?_ idle2_5 (fun _ _ => rfl) d, after2_5]
  rw [Bool.eq_false_iff]
  intro hf
  have := (flush2_5 ⟨t.val - 1, Nat.lt_of_le_of_lt (Nat.sub_le _ _) t.isLt⟩).mp hf
  simp only at this
  omega

/-- The first branch is taken at a batch row's first point, -/
theorem cond2_first : ∀ t : Fin cfg2.N, t.val % 4 = 0 → k2_cond1 (grid2.coords t) = 1#1 ∧ ¬ k2_cond2 (grid2.coords t) = 1#1 := by
  decide +kernel
/-- the second at the others. -/
theorem cond2_next : ∀ t : Fin cfg2.N, t.val % 4 ≠ 0 → ¬ k2_cond1 (grid2.coords t) = 1#1 ∧ k2_cond2 (grid2.coords t) = 1#1 := by
  decide +kernel

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 800000 in
/-- The body at any point: the inputs' memrefs hold their blocks, and at a later point the output's holds the sum so far. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  by_cases h : t.val % 4 = 0
  · rw [embAt_first V c t h]
    iintro ⟨HΦ, Ho, ⟨%d0, H0⟩, ⟨%d1, H1⟩, ⟨%d2, H2⟩, ⟨%d3, H3⟩, ⟨%d4, H4⟩, ⟨%d5, H5⟩⟩
    iapply (sound_kernel2_first c Set.univ (grid2.coords t) (cond2_first t h).1 (cond2_first t h).2 _ _ _ _ _ _ _ _ _ _ _ _ (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [embAt_next V c t h]
    simp only [before2_5 V c t h]
    iintro ⟨HΦ, Ho, ⟨%d0, H0⟩, ⟨%d1, H1⟩, ⟨%d2, H2⟩, ⟨%d3, H3⟩, ⟨%d4, H4⟩, ⟨%d5, H5⟩⟩
    iapply (sound_kernel2_next c Set.univ (grid2.coords t) (cond2_next t h).1 (cond2_next t h).2 _ _ _ _ _ _ _ _ _ _ _ _ (iblk2 V c 0 t) (iblk2 V c 1 t) (iblk2 V c 2 t) (iblk2 V c 3 t) (iblk2 V c 4 t) (embAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  refine triple_restated (sound_body2 V c t) rfl .rfl fun _ => Entails.of_eq ?_
  rw [idle2_5]
  rfl

end Cert.KernelIdeal.Own

end
-- ==== Proof.KernelIdeal.Run.lean ====
/-
  The whole program: the buffers' contents at each boundary between host operations and pallas_calls, and the run from
  the launch to the return, which reads the results and the arguments off the last boundary.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WritesUnit
public import Idealize.ShloMosaic.Lib.Tactic
public import Idealize.ShloMosaic.Lib.WordCmp
public import Idealize.ShloMosaic.Lib.Pointwise
public import proofs.«01_k».proof.Proof.KernelIdeal.Alpha
public import proofs.«01_k».proof.Proof.KernelIdeal.Scan
public import proofs.«01_k».proof.Proof.KernelIdeal.Embed

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v12, main_c, main_v13, main_v14, main_v15, main_cst, main_v16, main_cst_0, main_v17, main_v18, main_v19, main_v20]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v22, main_v23, main_v24, main_v25, main_v26, main_v27, main_v28, main_v29, main_v30, main_v31, main_v32, main_v33, main_v34, main_v35, main_v36]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v38, main_v39]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: at the compiled mesh, from any
    memory with zero counters, every weakly fair execution of @main on the TensorCores terminates, nothing faulting, and every
    final state has the argument arrays as launched and every semaphore counter of the machine at zero: the kit's launch over
    the segments, the last thread state read against the final state (`pointsTo_read_all`), each argument by `W7_<arg>`;
    the kit shows every counter at zero except the TensorCores' unscoped ones, of which there are none. -/
theorem run : θ_run defs (onTc (τ := τ) (main (F := F))) ⟨m, fun _ => 0, ρ⟩ (fun r => (∀ c : Dev nD,
      (r.2.mem ((c.tc : Thread nD τ).loc main_v37) = W7 m ρ c (Proc.devRef .tc main_v37)
      ∧ r.2.mem ((c.tc : Thread nD τ).loc main_v17) = W7 m ρ c (Proc.devRef .tc main_v17)
      ∧ r.2.mem ((c.tc : Thread nD τ).loc main_v38) = W7 m ρ c (Proc.devRef .tc main_v38)
      ∧ r.2.mem ((c.tc : Thread nD τ).loc main_v39) = W7 m ρ c (Proc.devRef .tc main_v39))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨⟨h c _ (mem_uc main_v37 (by decide)), h c _ (mem_uc main_v17 (by decide)), h c _ (mem_uc main_v38 (by decide)), h c _ (mem_uc main_v39 (by decide))⟩,
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

end Cert.KernelIdeal.Own

end
-- ==== Proof.ReferenceIdeal.Frame.lean ====
/-
  The reference's run at its arguments: no stretch of @main, before, inside or after the loop, writes an argument
  array, so each ends as it was launched.
-/
module

public import proofs.«01_k».proof.Proof.Gen.ReferenceIdeal.Run
public import Idealize.ShloMosaic.Lib.Quiescent

@[expose] public section

set_option maxRecDepth 4096

noncomputable section

namespace Cert.ReferenceIdeal.Own

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]

/-- The stretches before the loop write none of the buffers outside this list. -/
abbrev preW : List (Ref sig .tc) := hostOps0_W ++ hostOps0_1_W ++ hostOps0_2_W ++ hostOps0_3_W ++ hostOps0_4_W ++ hostOps0_5_W ++ hostOps0_6_W

/-- The stretches of one trip write none of the buffers outside this list. -/
abbrev bodyW : List (Ref sig .tc) := while0Ops0_W ++ while0Ops0_1_W ++ while0Ops0_2_W ++ while0Ops0_3_W ++ while0Ops0_4_W ++ while0Ops0_5_W
  ++ while0Ops0_6_W ++ while0Ops0_7_W ++ while0Ops0_8_W ++ while0Ops0_9_W

/-- The stretches after the loop write none of the buffers outside this list. -/
abbrev postW : List (Ref sig .tc) := hostOps0_7_W ++ hostOps0_8_W ++ hostOps0_9_W ++ hostOps0_10_W ++ hostOps0_11_W

/-- A buffer no stretch before the loop writes is kept by them. -/
theorem pre_keeps (r : Ref sig .tc) (h : r ∉ preW) (V : Valuation τ sig (Elt F)) : afterL preI V (Proc.devRef .tc r) = V (Proc.devRef .tc r) := by
  simp only [List.mem_append, not_or] at h
  obtain ⟨⟨⟨⟨⟨⟨h0, h1⟩, h2⟩, h3⟩, h4⟩, h5⟩, h6⟩ := h
  simp only [preI, afterL_cons, afterL_nil]
  rw [after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

/-- A buffer no stretch of a trip writes is kept by the trip. -/
theorem body_keeps (r : Ref sig .tc) (h : r ∉ bodyW) (V : Valuation τ sig (Elt F)) : afterL bodyI V (Proc.devRef .tc r) = V (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  simp only [bodyI, afterL_cons, afterL_nil]
  rw [after_of_writes_sub _ _ while0Ops0_9_writes h9, after_of_writes_sub _ _ while0Ops0_8_writes h8, after_of_writes_sub _ _ while0Ops0_7_writes h7,
    after_of_writes_sub _ _ while0Ops0_6_writes h6, after_of_writes_sub _ _ while0Ops0_5_writes h5, after_of_writes_sub _ _ while0Ops0_4_writes h4,
    after_of_writes_sub _ _ while0Ops0_3_writes h3, after_of_writes_sub _ _ while0Ops0_2_writes h2, after_of_writes_sub _ _ while0Ops0_1_writes h1,
    after_of_writes_sub _ _ while0Ops0_writes h0]

/-- A buffer no stretch after the loop writes is kept by them. -/
theorem post_keeps (r : Ref sig .tc) (h : r ∉ postW) (V : Valuation τ sig (Elt F)) : afterL postI V (Proc.devRef .tc r) = V (Proc.devRef .tc r) := by
  simp only [List.mem_append, not_or] at h
  obtain ⟨⟨⟨⟨h0, h1⟩, h2⟩, h3⟩, h4⟩ := h
  simp only [postI, afterL_cons, afterL_nil]
  rw [after_of_writes_sub _ _ hostOps0_11_writes h4, after_of_writes_sub _ _ hostOps0_10_writes h3, after_of_writes_sub _ _ hostOps0_9_writes h2,
    after_of_writes_sub _ _ hostOps0_8_writes h1, after_of_writes_sub _ _ hostOps0_7_writes h0]

/-- The condition's operations write their two temporaries only. -/
theorem cond_writes : (condOps : List (HloOp τ sig (Elt F))).Forall fun op => op.writes ⊆ (([main_while0c_c_25, main_while0c_v81] : List (Ref sig .tc)).map (Proc.devRef (τ := τ) .tc)).toFinset :=
  forall_writes_sub_of_map rfl

/-- A buffer neither the condition nor a trip writes is what it was at the loop's entry, before every trip. -/
theorem trips_keep (r : Ref sig .tc) (h : r ∉ [main_while0c_c_25, main_while0c_v81] ++ bodyW) (W : Dev nD → Valuation τ sig (Elt F)) (c : Dev nD) :
    ∀ k, atTrip condOps bodyI W k c (Proc.devRef .tc r) = W c (Proc.devRef .tc r)
  | 0 => rfl
  | k + 1 => by
    have h' := h
    rw [List.mem_append, not_or] at h'
    rw [atTrip_succ, body_keeps r h'.2, after_of_writes_sub _ _ cond_writes h'.1, trips_keep r h W c k]

/-- A buffer the loop and the stretches after it leave alone ends as the loop found it. -/
theorem final_keeps (r : Ref sig .tc) (h : r ∉ [main_while0c_c_25, main_while0c_v81] ++ bodyW) (h' : r ∉ postW) (m : (ℓ : Loc nD τ sig) → Buf (Elt F) ℓ) (c : Dev nD) :
    finalContents condOps preI bodyI postI 2048 m c (Proc.devRef .tc r) = entryContents preI m c (Proc.devRef .tc r) := by
  have h'' := h
  rw [List.mem_append, not_or] at h''
  show afterL postI _ _ = _
  rw [post_keeps r h', after_of_writes_sub _ _ cond_writes h''.1, trips_keep r h]

/-- An argument array ends as launched. -/
theorem final_arg (r : Ref sig .tc) (h : r ∉ preW) (h' : r ∉ [main_while0c_c_25, main_while0c_v81] ++ bodyW) (h'' : r ∉ postW)
    (m : (ℓ : Loc nD τ sig) → Buf (Elt F) ℓ) (c : Dev nD) :
    finalContents condOps preI bodyI postI 2048 m c (Proc.devRef .tc r) = m ((c.tc : Thread nD τ).loc r) := by
  rw [final_keeps r h' h'']
  show afterL preI _ _ = _
  rw [pre_keeps r h]

variable (m : (ℓ : Loc nD τ sig) → Buf (Elt F) ℓ) (ρ : Dev nD → PrngReg)

/-- The reference's run: each result is the loop's fold at its buffer, the arguments are unchanged and every semaphore
    reads zero. -/
theorem run : θ_run defs (onTc (τ := τ) main) ⟨m, fun _ => 0, ρ⟩ (fun r => (∀ c : Dev nD,
      (r.2.mem ((c.tc : Thread nD τ).loc main_v80) = finalContents condOps preI bodyI postI 2048 m c (Proc.devRef .tc main_v80)
      ∧ r.2.mem ((c.tc : Thread nD τ).loc main_v42) = finalContents condOps preI bodyI postI 2048 m c (Proc.devRef .tc main_v42)
      ∧ r.2.mem ((c.tc : Thread nD τ).loc main_v46) = finalContents condOps preI bodyI postI 2048 m c (Proc.devRef .tc main_v46)
      ∧ r.2.mem ((c.tc : Thread nD τ).loc main_v54) = finalContents condOps preI bodyI postI 2048 m c (Proc.devRef .tc main_v54))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run _ _ _).mono (fun r h => ⟨fun c => ⟨⟨h c main_v80 rfl, h c main_v42 rfl, h c main_v46 rfl, h c main_v54 rfl⟩, ?_⟩,
    sem_eq_zero_of_no_sems (by decide) r.2⟩) (run_fold m ρ)
  exact ⟨(h c main_arg0 rfl).trans (final_arg _ (by decide) (by decide) (by decide) m c), (h c main_arg1 rfl).trans (final_arg _ (by decide) (by decide) (by decide) m c),
    (h c main_arg2 rfl).trans (final_arg _ (by decide) (by decide) (by decide) m c), (h c main_arg3 rfl).trans (final_arg _ (by decide) (by decide) (by decide) m c),
    (h c main_arg4 rfl).trans (final_arg _ (by decide) (by decide) (by decide) m c), (h c main_arg5 rfl).trans (final_arg _ (by decide) (by decide) (by decide) m c),
    (h c main_arg6 rfl).trans (final_arg _ (by decide) (by decide) (by decide) m c)⟩

end Cert.ReferenceIdeal.Own

end
-- ==== Proof.Value.Spec.lean ====
module

public import Idealize.ShloMosaic.Lib.Pointwise

/-! The mathematics of the operator over the extended reals: the weights, the integrate-and-fire scan, and the embeddings
    in the two forms of the two programs.  The two forms of the embeddings are proved equal for finite weights. -/

@[expose] public section
noncomputable section
namespace Cert.Cif
open Idealize.ShloMosaic

/-- The arguments as functions of their coordinates. -/
structure Args where
  /-- Hidden states: batch, frame, channel. -/
  h : Fin 16 → Fin 2048 → Fin 512 → EReal
  /-- Frame mask: batch, frame. -/
  mask : Fin 16 → Fin 2048 → EReal
  /-- Labels: batch, position. -/
  tgt : Fin 16 → Fin 256 → BitVec 32
  /-- Convolution weights: output channel, input channel, tap. -/
  w : Fin 512 → Fin 512 → Fin 3 → EReal
  /-- Convolution bias. -/
  cb : Fin 512 → EReal
  /-- Output weights. -/
  lw : Fin 512 → EReal
  /-- Output bias. -/
  lb : EReal

/-- The three-tap convolution along the frames, zero beyond both ends, without its bias. -/
def conv (A : Args) (b : Fin 16) (t : Fin 2048) (o : Fin 512) : EReal :=
  (if _h : t.val < 1 then 0 else ∑ x, A.h b ⟨t.val - 1, by omega⟩ x * A.w o x 0) + ∑ x, A.h b t x * A.w o x 1
    + (if h : t.val < 2047 then ∑ x, A.h b ⟨1 + t.val, by omega⟩ x * A.w o x 2 else 0)

/-- The masked weight of a frame before scaling. -/
def raw (A : Args) (b : Fin 16) (t : Fin 2048) : EReal :=
  Ideal.logistic (∑ o, max (conv A b t o + A.cb o) 0 * A.lw o + A.lb) * A.mask b t

/-- The sum of a batch's weights. -/
def tokens (A : Args) (b : Fin 16) : EReal := ∑ t, raw A b t

/-- The number of labels of a batch that are not the padding label. -/
def labels (A : Args) (b : Fin 16) : EReal := ∑ l, if A.tgt b l = 0xFFFFFFFF#32 then 0 else 1

/-- The scaled weight. -/
def alpha (A : Args) (b : Fin 16) (t : Fin 2048) : EReal := raw A b t * Ideal.div (labels A b) (tokens A b)

/-- The scaled weights as a sequence. -/
def alphaN (A : Args) (b : Fin 16) (n : ℕ) : EReal := alpha A b ⟨min n 2047, by omega⟩
/-- One channel of the hidden states as a sequence. -/
def hN (A : Args) (b : Fin 16) (d : Fin 512) (n : ℕ) : EReal := A.h b ⟨min n 2047, by omega⟩ d

section Scan
variable (a h : ℕ → EReal)

/-- The integral before frame `n`. -/
def integ : ℕ → EReal
  | 0 => 0
  | n + 1 => if 1 ≤ integ n + a n then integ n + a n - 1 else integ n + a n
/-- The integral at frame `n` with the frame's weight added. -/
def level (n : ℕ) : EReal := integ a n + a n
/-- The part of frame `n`'s weight that goes to the label under way. -/
def part (n : ℕ) : EReal := if 1 ≤ level a n then 1 - integ a n else a n
/-- The number of frames before `n` that fired. -/
def count : ℕ → ℕ
  | 0 => 0
  | n + 1 => count n + if 1 ≤ level a n then 1 else 0
/-- The embedding under way before frame `n`. -/
def frame : ℕ → EReal
  | 0 => 0
  | n + 1 => if 1 ≤ level a n then (a n - part a n) * h n else frame n + part a n * h n
/-- The embedding under way with frame `n`'s part added. -/
def whole (n : ℕ) : EReal := frame a h n + part a n * h n

/-- The weight of frame `n` in label `j`. -/
def share (j n : ℕ) : EReal := (if j = count a n then part a n else 0) + (if j = count a n + 1 then a n - part a n else 0)
/-- The embedding of label `j` summed over the first `n` frames. -/
def upto (j : ℕ) : ℕ → EReal
  | 0 => 0
  | n + 1 => upto j n + share a j n * h n

theorem integ_succ (n : ℕ) : integ a (n + 1) = if 1 ≤ level a n then level a n - 1 else level a n := rfl
theorem count_succ (n : ℕ) : count a (n + 1) = count a n + if 1 ≤ level a n then 1 else 0 := rfl

theorem count_mono {m n : ℕ} (h : m ≤ n) : count a m ≤ count a n := by
  induction n, h using Nat.le_induction with
  | base => exact le_rfl
  | succ n _ ih => rw [count_succ]; omega

theorem count_le (n : ℕ) : count a n ≤ n := by
  induction n with
  | zero => exact le_rfl
  | succ n ih => rw [count_succ]; split <;> omega

/-- A frame that fires raises the count past its own label. -/
theorem count_fire {m n : ℕ} (hm : 1 ≤ level a m) (h : m < n) : count a m < count a n := by
  have := count_mono a (Nat.succ_le_of_lt h)
  rw [Nat.succ_eq_add_one, count_succ, if_pos hm] at this
  omega

/-- Every label below the count is some fired frame's. -/
theorem exists_fire {j n : ℕ} (h : j < count a n) : ∃ m < n, 1 ≤ level a m ∧ count a m = j := by
  induction n with
  | zero => exact absurd h (Nat.not_lt_zero _)
  | succ n ih =>
    by_cases hj : j < count a n
    · obtain ⟨m, hm, h'⟩ := ih hj
      exact ⟨m, by omega, h'⟩
    · rw [count_succ] at h
      by_cases hf : 1 ≤ level a n
      · rw [if_pos hf] at h
        exact ⟨n, by omega, hf, by omega⟩
      · rw [if_neg hf] at h
        omega

theorem sub_self_of_finite {x : EReal} (h : x ≠ ⊤ ∧ x ≠ ⊥) : x - x = 0 := EReal.sub_self h.1 h.2

/-- A label not yet begun has nothing but, right after its predecessor fired, the rest of that frame. -/
theorem upto_next (ha : ∀ n, a n ≠ ⊤ ∧ a n ≠ ⊥) (n j : ℕ) (hj : count a n < j) : upto a h j n = 0 := by
  induction n with
  | zero => rfl
  | succ n ih =>
    rw [count_succ] at hj
    have e : share a j n = 0 := by
      unfold share
      by_cases hf : 1 ≤ level a n
      · rw [if_pos hf] at hj
        rw [if_neg (by omega), if_neg (by omega), add_zero]
      · rw [if_neg hf] at hj
        rw [if_neg (by omega), zero_add]
        split
        · rw [part, if_neg hf, sub_self_of_finite (ha n)]
        · rfl
    rw [upto, ih (by omega), e, zero_mul, add_zero]

/-- The scan's running embedding is the sum so far for the label under way. -/
theorem frame_eq (ha : ∀ n, a n ≠ ⊤ ∧ a n ≠ ⊥) (n : ℕ) : frame a h n = upto a h (count a n) n := by
  induction n with
  | zero => rfl
  | succ n ih =>
    rw [frame, upto, count_succ, share]
    by_cases hf : 1 ≤ level a n
    · rw [if_pos hf, if_pos hf, upto_next a h ha n _ (by omega), if_neg (by omega), if_pos rfl, zero_add, zero_add]
    · rw [if_neg hf, if_neg hf, add_zero, ← ih, if_pos rfl, if_neg (by omega), add_zero]

/-- Once its frame has fired a label gets nothing more: the sum is what the scan held when it fired. -/
theorem upto_fire (ha : ∀ n, a n ≠ ⊤ ∧ a n ≠ ⊥) {m n : ℕ} (hm : 1 ≤ level a m) (hn : m < n) :
    upto a h (count a m) n = whole a h m := by
  induction n, Nat.succ_le_of_lt hn using Nat.le_induction with
  | base =>
    rw [Nat.succ_eq_add_one, upto, whole, frame_eq a h ha, share, if_pos rfl, if_neg (by omega), add_zero]
  | succ n hmn ih =>
    have := count_fire a hm (show m < n from hmn)
    rw [upto, ih hmn, share, if_neg (by omega), if_neg (by omega), add_zero, zero_mul, add_zero]

/-- The partial sums as a sum over the frames. -/
theorem upto_eq_sum (j n : ℕ) : upto a h j n = ∑ t ∈ Finset.range n, share a j t * h t := by
  induction n with
  | zero => rfl
  | succ n ih => rw [upto, ih, Finset.sum_range_succ]

theorem finite_integ (ha : ∀ n, a n ≠ ⊤ ∧ a n ≠ ⊥) (n : ℕ) : integ a n ≠ ⊤ ∧ integ a n ≠ ⊥ := by
  induction n with
  | zero => exact ⟨EReal.zero_ne_top, EReal.zero_ne_bot⟩
  | succ n ih =>
    obtain ⟨x, hx⟩ := (EReal.canLift.prf _ ih : ∃ x : ℝ, (x : EReal) = _)
    obtain ⟨y, hy⟩ := (EReal.canLift.prf _ (ha n) : ∃ y : ℝ, (y : EReal) = _)
    rw [integ, ← hx, ← hy]
    split
    · exact ⟨by exact_mod_cast EReal.coe_ne_top (x + y - 1), by exact_mod_cast EReal.coe_ne_bot (x + y - 1)⟩
    · exact ⟨by exact_mod_cast EReal.coe_ne_top (x + y), by exact_mod_cast EReal.coe_ne_bot (x + y)⟩

theorem finite_sub {x y : EReal} (hx : x ≠ ⊤ ∧ x ≠ ⊥) (hy : y ≠ ⊤ ∧ y ≠ ⊥) : x - y ≠ ⊤ ∧ x - y ≠ ⊥ := by
  lift x to ℝ using hx
  lift y to ℝ using hy
  exact ⟨by exact_mod_cast EReal.coe_ne_top (x - y), by exact_mod_cast EReal.coe_ne_bot (x - y)⟩
theorem finite_add {x y : EReal} (hx : x ≠ ⊤ ∧ x ≠ ⊥) (hy : y ≠ ⊤ ∧ y ≠ ⊥) : x + y ≠ ⊤ ∧ x + y ≠ ⊥ := by
  lift x to ℝ using hx
  lift y to ℝ using hy
  exact ⟨by exact_mod_cast EReal.coe_ne_top (x + y), by exact_mod_cast EReal.coe_ne_bot (x + y)⟩
theorem finite_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  exact ⟨by exact_mod_cast EReal.coe_ne_top (x * y), by exact_mod_cast EReal.coe_ne_bot (x * y)⟩
theorem finite_zero : (0 : EReal) ≠ ⊤ ∧ (0 : EReal) ≠ ⊥ := ⟨EReal.zero_ne_top, EReal.zero_ne_bot⟩
theorem finite_one : (1 : EReal) ≠ ⊤ ∧ (1 : EReal) ≠ ⊥ :=
  ⟨by exact_mod_cast EReal.coe_ne_top (1 : ℝ), by exact_mod_cast EReal.coe_ne_bot (1 : ℝ)⟩

theorem finite_part (ha : ∀ n, a n ≠ ⊤ ∧ a n ≠ ⊥) (n : ℕ) : part a n ≠ ⊤ ∧ part a n ≠ ⊥ := by
  unfold part
  split
  · exact finite_sub finite_one (finite_integ a ha n)
  · exact ha n

theorem finite_share (ha : ∀ n, a n ≠ ⊤ ∧ a n ≠ ⊥) (j n : ℕ) : share a j n ≠ ⊤ ∧ share a j n ≠ ⊥ := by
  unfold share
  refine finite_add ?_ ?_
  · split
    · exact finite_part a ha n
    · exact finite_zero
  · split
    · exact finite_sub (ha n) (finite_part a ha n)
    · exact finite_zero
end Scan

/-! The weights are finite when the mask is not negative. -/

theorem div_of_ne {x y : EReal} (hy : y ≠ 0) : Ideal.div x y = x * y⁻¹ := by
  unfold Ideal.div
  rw [if_neg hy]

theorem exp_nonneg (x : EReal) : 0 ≤ Ideal.exp x := by
  induction x with
  | bot => exact le_rfl
  | top => exact le_top
  | coe r => exact EReal.coe_nonneg.mpr (Real.exp_pos r).le

theorem one_le_den (x : EReal) : 1 ≤ 1 + Ideal.exp (-x) := by
  have := add_le_add (le_refl (1 : EReal)) (exp_nonneg (-x))
  rwa [add_zero] at this

theorem den_ne (x : EReal) : 1 + Ideal.exp (-x) ≠ 0 :=
  (lt_of_lt_of_le (by exact_mod_cast zero_lt_one (α := ℝ)) (one_le_den x)).ne'

theorem logistic_nonneg (x : EReal) : 0 ≤ Ideal.logistic x := by
  unfold Ideal.logistic
  rw [div_of_ne (den_ne x), one_mul]
  exact EReal.inv_nonneg_of_nonneg (le_trans (by exact_mod_cast zero_le_one (α := ℝ)) (one_le_den x))

theorem raw_nonneg (A : Args) (hm : ∀ b t, 0 ≤ A.mask b t) (b : Fin 16) (t : Fin 2048) : 0 ≤ raw A b t :=
  mul_nonneg (logistic_nonneg _) (hm b t)

theorem finite_sum {ι : Type} (s : Finset ι) (f : ι → EReal) (h : ∀ i ∈ s, f i ≠ ⊤ ∧ f i ≠ ⊥) : ∑ i ∈ s, f i ≠ ⊤ ∧ ∑ i ∈ s, f i ≠ ⊥ := by
  classical
  induction s using Finset.induction_on with
  | empty => exact finite_zero
  | insert a s ha ih =>
    rw [Finset.sum_insert ha]
    exact finite_add (h a (Finset.mem_insert_self a s)) (ih fun i hi => h i (Finset.mem_insert_of_mem hi))

theorem labels_finite (A : Args) (b : Fin 16) : labels A b ≠ ⊤ ∧ labels A b ≠ ⊥ := by
  refine finite_sum _ _ fun i _ => ?_
  split
  · exact finite_zero
  · exact finite_one

/-- Every scaled weight is finite: where the sum of a batch's weights is zero so is every weight, and where it is infinite
    the scale is zero. -/
theorem alpha_finite (A : Args) (hm : ∀ b t, 0 ≤ A.mask b t) (b : Fin 16) (t : Fin 2048) : alpha A b t ≠ ⊤ ∧ alpha A b t ≠ ⊥ := by
  have h0 : ∀ t, 0 ≤ raw A b t := raw_nonneg A hm b
  have hle : raw A b t ≤ tokens A b := Finset.single_le_sum (fun i _ => h0 i) (Finset.mem_univ t)
  unfold alpha
  by_cases hz : tokens A b = 0
  · have : raw A b t = 0 := le_antisymm (hz ▸ hle) (h0 t)
    rw [this, zero_mul]
    exact finite_zero
  · rw [div_of_ne hz]
    by_cases ht : tokens A b = ⊤
    · rw [ht, EReal.inv_top, mul_zero, mul_zero]
      exact finite_zero
    · have ht0 : 0 ≤ tokens A b := le_trans (h0 t) hle
      have hb : tokens A b ≠ ⊥ := fun e => by rw [e] at ht0; exact absurd ht0 (by decide)
      have hr : raw A b t ≠ ⊤ ∧ raw A b t ≠ ⊥ :=
        ⟨fun e => ht (top_le_iff.mp (e ▸ hle)), fun e => by have := h0 t; rw [e] at this; exact absurd this (by decide)⟩
      refine finite_mul hr (finite_mul (labels_finite A b) ?_)
      generalize tokens A b = x at *
      lift x to ℝ using ⟨ht, hb⟩
      rw [← EReal.coe_inv]
      exact ⟨EReal.coe_ne_top _, EReal.coe_ne_bot _⟩

theorem alphaN_finite (A : Args) (hm : ∀ b t, 0 ≤ A.mask b t) (b : Fin 16) (n : ℕ) : alphaN A b n ≠ ⊤ ∧ alphaN A b n ≠ ⊥ :=
  alpha_finite A hm b _

theorem alphaN_of (A : Args) (b : Fin 16) (t : Fin 2048) : alphaN A b t.val = alpha A b t :=
  congrArg (alpha A b) (Fin.ext (show min t.val 2047 = t.val by omega))
theorem hN_of (A : Args) (b : Fin 16) (d : Fin 512) (t : Fin 2048) : hN A b d t.val = A.h b t d :=
  congrArg (fun i => A.h b i d) (Fin.ext (show min t.val 2047 = t.val by omega))

/-- A label counts one unless it is the padding label. -/
theorem label_one (x : BitVec 32) :
    (FloatOps.uitofp FTy.f32 (IntOp.cmpi CmpIPredicate.ne x 4294967295#32) : Ideal .f32) = (if x = 0xFFFFFFFF#32 then 0 else 1 : EReal) := by
  by_cases h : x = 0xFFFFFFFF#32
  · rw [if_pos h, h]
    show (((0 : ℕ) : ℝ) : EReal) = 0
    simp
  · rw [if_neg h, show IntOp.cmpi CmpIPredicate.ne x 4294967295#32 = 1#1 from congrArg BitVec.ofBool (bne_iff_ne.mpr h)]
    show (((1 : ℕ) : ℝ) : EReal) = 1
    simp

/-- The arguments read from the seven arrays. -/
def Args.of (h : FVec Ideal ⟨3, ![16, 2048, 512]⟩ .f32) (mask : FVec Ideal ⟨3, ![16, 1, 2048]⟩ .f32) (tgt : IVec ⟨2, ![16, 256]⟩ 32)
    (w : FVec Ideal ⟨3, ![512, 512, 3]⟩ .f32) (cb : FVec Ideal ⟨1, ![512]⟩ .f32) (lw : FVec Ideal ⟨2, ![1, 512]⟩ .f32)
    (lb : FVec Ideal ⟨1, ![1]⟩ .f32) : Args where
  h b t d := h (ix3 b t d)
  mask b t := mask (ix3 b 0 t)
  tgt b l := tgt (ix2 b l)
  w o x k := w (ix3 o x k)
  cb o := cb (ix1 o)
  lw o := lw (ix2 0 o)
  lb := lb (ix1 0)

/-- The embedding of label `j` in one channel, as the whole sum over the frames. -/
def embed (A : Args) (b : Fin 16) (j : Fin 256) (d : Fin 512) : EReal :=
  if j.val < count (alphaN A b) 2048 then upto (alphaN A b) (hN A b d) j.val 2048 else 0

end Cert.Cif
end
-- ==== Proof.Value.KernelAlpha.lean ====
module

public import proofs.«01_k».proof.Proof.KernelIdeal.Run
public import proofs.«01_k».proof.Proof.Value.Spec
public import Idealize.ShloMosaic.Lib.Pipeline.ValueKit
public import Idealize.ShloMosaic.Lib.StableHlo.ReadAt

/-! What the kernel's first stage leaves: the masked weights before scaling, and the sums and scale the host takes of them. -/

@[expose] public section
set_option maxRecDepth 16384
noncomputable section
namespace Cert.KernelIdeal.Own
open Idealize.ShloMosaic Idealize.ShloMosaic.TcCoe Idealize.SL.Sem Idealize.ShloMosaic.StableHlo
open Cert.KernelIdeal Cert.KernelIdeal.Gen Cert.Cif
open Idealize.ShloMosaic.Pipeline (Dat Cfg Window)

/-- One batch's block: the stage's result at frame `t` from its operand blocks. -/
theorem alpha_pay (h : FVec Ideal S1x2048x512 .f32) (w0 w1 w2 : FVec Ideal S512x512 .f32) (cb lw : FVec Ideal S1x512 .f32)
    (lb : FVec Ideal S1x1 .f32) (mk : FVec Ideal S1x1x2048 .f32) (t : Fin 2048) :
    k0_pay1 (F := Ideal) (k0_pay2 h w0 w1 w2 cb lw lb) mk (ix3 (0 : Fin 1) (0 : Fin 1) t) =
      Ideal.logistic (∑ x : Fin 512, max (((if _h : t.val < 1 then 0 else ∑ y : Fin 512, h (ix3 (0 : Fin 1) (⟨t.val - 1, by omega⟩ : Fin 2048) y) * w0 (ix2 y x))
        + ∑ y : Fin 512, h (ix3 (0 : Fin 1) t y) * w1 (ix2 y x)
        + if h' : t.val < 2047 then ∑ y : Fin 512, h (ix3 (0 : Fin 1) (⟨1 + t.val, by omega⟩ : Fin 2048) y) * w2 (ix2 y x) else 0)
        + cb (ix2 (0 : Fin 1) x)) 0 * lw (ix2 (0 : Fin 1) x) + lb (ix2 (0 : Fin 1) (0 : Fin 1))) * mk (ix3 (0 : Fin 1) (0 : Fin 1) t) := by
  pointwise [k0_pay1, k0_pay2]

/-- The windows' block indices: batch `t` for the hidden states, the mask and the result, the whole array otherwise. -/
theorem idx0 : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0, 0] ∧ win0_8.index t = ![t.val, 0, 0] :=
  (by decide +kernel : ∀ t : Fin grid0.N, _)

section Entry
variable (V : Valuation τ sig (Elt Ideal))

/-- The arguments as a valuation holds them. -/
def argsOf : Args := Args.of (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))

/-- The three taps of the convolution weights, transposed, and the biases as rows. -/
theorem entry_v2 (x o : Fin 512) : (StableHlo.after hostOps0 V (Proc.devRef .tc main_v2) : FVec Ideal S512x512 .f32) (ix2 x o) = (argsOf V).w o x 0 := by
  after_reads_at
  rfl
theorem entry_v5 (x o : Fin 512) : (StableHlo.after hostOps0 V (Proc.devRef .tc main_v5) : FVec Ideal S512x512 .f32) (ix2 x o) = (argsOf V).w o x 1 := by
  after_reads_at
  rfl
theorem entry_v8 (x o : Fin 512) : (StableHlo.after hostOps0 V (Proc.devRef .tc main_v8) : FVec Ideal S512x512 .f32) (ix2 x o) = (argsOf V).w o x 2 := by
  after_reads_at
  rfl
theorem entry_v9 (o : Fin 512) : (StableHlo.after hostOps0 V (Proc.devRef .tc main_v9) : FVec Ideal S1x512 .f32) (ix2 (0 : Fin 1) o) = (argsOf V).cb o := by
  after_reads_at
  rfl
theorem entry_v10 : (StableHlo.after hostOps0 V (Proc.devRef .tc main_v10) : FVec Ideal S1x1 .f32) (ix2 (0 : Fin 1) (0 : Fin 1)) = (argsOf V).lb := by
  after_reads_at
  rfl
end Entry

variable (m : (ℓ : Loc nD τ sig) → Buf (Elt Ideal) ℓ) (ρ : Dev nD → PrngReg)

/-- The arguments at a device. -/
abbrev args (c : Dev nD) : Args := argsOf (W0 m ρ c)

theorem iblk0_h (c : Dev nD) (t : Fin cfg0.N) (b : Fin 16) (hb : b.val = t.val) (s : Fin 2048) (x : Fin 512) :
    (iblk0 (V1 m ρ) c 0 t : FVec Ideal S1x2048x512 .f32) (ix3 (0 : Fin 1) s x) = (args m ρ c).h b s x := by
  refine Eq.trans ?_ (congrFun (W1_of m ρ c main_arg0 (by decide)) (ix3 b s x))
  blk_ext [iblk0, V1, idx0 t]

theorem iblk0_m (c : Dev nD) (t : Fin cfg0.N) (b : Fin 16) (hb : b.val = t.val) (s : Fin 2048) :
    (iblk0 (V1 m ρ) c 7 t : FVec Ideal S1x1x2048 .f32) (ix3 (0 : Fin 1) (0 : Fin 1) s) = (args m ρ c).mask b s := by
  refine Eq.trans ?_ (congrFun (W1_of m ρ c main_arg1 (by decide)) (ix3 b 0 s))
  blk_ext [iblk0, V1, idx0 t]

theorem iblk0_w0 (c : Dev nD) (t : Fin cfg0.N) (x o : Fin 512) :
    (iblk0 (V1 m ρ) c 1 t : FVec Ideal S512x512 .f32) (ix2 x o) = (args m ρ c).w o x 0 := by
  refine Eq.trans ?_ (entry_v2 (W0 m ρ c) x o)
  blk_ext [iblk0, V1, idx0 t]
theorem iblk0_w1 (c : Dev nD) (t : Fin cfg0.N) (x o : Fin 512) :
    (iblk0 (V1 m ρ) c 2 t : FVec Ideal S512x512 .f32) (ix2 x o) = (args m ρ c).w o x 1 := by
  refine Eq.trans ?_ (entry_v5 (W0 m ρ c) x o)
  blk_ext [iblk0, V1, idx0 t]
theorem iblk0_w2 (c : Dev nD) (t : Fin cfg0.N) (x o : Fin 512) :
    (iblk0 (V1 m ρ) c 3 t : FVec Ideal S512x512 .f32) (ix2 x o) = (args m ρ c).w o x 2 := by
  refine Eq.trans ?_ (entry_v8 (W0 m ρ c) x o)
  blk_ext [iblk0, V1, idx0 t]
theorem iblk0_cb (c : Dev nD) (t : Fin cfg0.N) (o : Fin 512) :
    (iblk0 (V1 m ρ) c 4 t : FVec Ideal S1x512 .f32) (ix2 (0 : Fin 1) o) = (args m ρ c).cb o := by
  refine Eq.trans ?_ (entry_v9 (W0 m ρ c) o)
  blk_ext [iblk0, V1, idx0 t]
theorem iblk0_lw (c : Dev nD) (t : Fin cfg0.N) (o : Fin 512) :
    (iblk0 (V1 m ρ) c 5 t : FVec Ideal S1x512 .f32) (ix2 (0 : Fin 1) o) = (args m ρ c).lw o := by
  refine Eq.trans ?_ (congrFun (W1_of m ρ c main_arg5 (by decide)) (ix2 (0 : Fin 1) o))
  blk_ext [iblk0, V1, idx0 t]
theorem iblk0_lb (c : Dev nD) (t : Fin cfg0.N) :
    (iblk0 (V1 m ρ) c 6 t : FVec Ideal S1x1 .f32) (ix2 (0 : Fin 1) (0 : Fin 1)) = (args m ρ c).lb := by
  refine Eq.trans ?_ (entry_v10 (W0 m ρ c))
  blk_ext [iblk0, V1, idx0 t]

/-- One block of the first stage is one batch of the masked weights. -/
theorem alpha_point (c : Dev nD) (t : Fin cfg0.N) (b : Fin 16) (hb : b.val = t.val) (s : Fin 2048) :
    k0_pay1 (F := Ideal) (k0_pay2 (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t)) (iblk0 (V1 m ρ) c 7 t) (ix3 (0 : Fin 1) (0 : Fin 1) s)
      = raw (args m ρ c) b s := by
  refine (alpha_pay _ _ _ _ _ _ _ _ s).trans ?_
  simp only [iblk0_h m ρ c t b hb, iblk0_m m ρ c t b hb, iblk0_w0 m ρ c t, iblk0_w1 m ρ c t, iblk0_w2 m ρ c t, iblk0_cb m ρ c t,
    iblk0_lw m ρ c t, iblk0_lb m ρ c t]
  rfl

/-- The first stage's array holds the masked weights. -/
theorem raw_arr (c : Dev nD) : (dat0 (V1 m ρ) c).arrAt 8 cfg0.N = (fun y : S16x1x2048.Idx => raw (args m ρ c) (y 0) (y 2) : FVec Ideal S16x1x2048 .f32) := by
  refine (dat0 (V1 m ρ) c).arrAt_eq_of_covers 8 _ (by decide +kernel) fun t _ y => ?_
  blk_simp
  rw [after0_8]
  unfold out0_8
  frame_out
  idx_vars y
  obtain rfl : y0 = 0 := Subsingleton.elim _ _
  obtain rfl : y1 = 0 := Subsingleton.elim _ _
  refine (alpha_point m ρ c t ⟨t.val, t.isLt⟩ rfl y2).trans ?_
  refine congrArg₂ (raw (args m ρ c)) (Fin.ext ?_) (Fin.ext ?_)
  · blk_simp [idx0 t]
    rfl
  · blk_simp [idx0 t]
end Cert.KernelIdeal.Own
end
-- ==== Proof.Value.KernelScan.lean ====
module

public import proofs.«01_k».proof.Proof.Value.KernelAlpha

/-! What the kernel's scan leaves: the scaled weights, the running integrals, the two parts of every weight, the label
    numbers and the number of fires, all in the terms of the common scan. -/

@[expose] public section
set_option maxRecDepth 16384
noncomputable section
namespace Cert.KernelIdeal.Own
open Idealize.ShloMosaic Idealize.ShloMosaic.TcCoe Idealize.SL.Sem Idealize.ShloMosaic.StableHlo
open Cert.KernelIdeal Cert.KernelIdeal.Gen Cert.Cif
open Idealize.ShloMosaic.Pipeline (Dat Cfg Window)

variable (m : (ℓ : Loc nD τ sig) → Buf (Elt Ideal) ℓ) (ρ : Dev nD → PrngReg)

theorem raw_at (c : Dev nD) (b : Fin 16) (t : Fin 2048) :
    (W2 m ρ c (Proc.devRef .tc main_v11) : FVec Ideal S16x1x2048 .f32) (ix3 b (0 : Fin 1) t) = raw (args m ρ c) b t :=
  congrFun ((W2_arr m ρ c 8).trans (raw_arr m ρ c)) (ix3 b (0 : Fin 1) t)

/-- The sums of the weights. -/
theorem tokens_at (c : Dev nD) (b : Fin 16) : (W3 m ρ c (Proc.devRef .tc main_v17) : FVec Ideal S16 .f32) (ix1 b) = tokens (args m ρ c) b := by
  unfold W3
  after_reads_at
  exact Finset.sum_congr rfl fun t _ => raw_at m ρ c b t

theorem tgt_at (c : Dev nD) (b : Fin 16) (l : Fin 256) : (W2 m ρ c (Proc.devRef .tc main_arg2) : IVec S16x256 32) (ix2 b l) = (args m ρ c).tgt b l :=
  congrFun (W2_args m ρ c main_arg2 (by decide)) (ix2 b l)

/-- The scale. -/
theorem scale_at (c : Dev nD) (b : Fin 16) :
    (W3 m ρ c (Proc.devRef .tc main_v19) : FVec Ideal S1x16 .f32) (ix2 (0 : Fin 1) b) = Ideal.div (labels (args m ρ c) b) (tokens (args m ρ c) b) := by
  unfold W3
  after_reads_at
  refine congrArg₂ Ideal.div (Finset.sum_congr rfl fun l _ => ?_) (Finset.sum_congr rfl fun t _ => raw_at m ρ c b t)
  rw [label_one]
  exact congrArg (fun x : BitVec 32 => if x = 0xFFFFFFFF#32 then (0 : EReal) else 1) (tgt_at m ρ c b l)

/-- The weights with the frames first. -/
theorem rawT_at (c : Dev nD) (t : Fin 2048) (b : Fin 16) :
    (W3 m ρ c (Proc.devRef .tc main_v20) : FVec Ideal S2048x16 .f32) (ix2 t b) = raw (args m ρ c) b t := by
  unfold W3
  after_reads_at
  exact raw_at m ρ c b t

section Steps
variable (X : FVec Ideal S2048x16 .f32) (sc : FVec Ideal S1x16 .f32) (a : ℕ → EReal) (b : Fin 16)

theorem row_alpha (h : ∀ t : Fin 2048, X (ix2 t b) * sc (ix2 (0 : Fin 1) b) = a t.val) (n : ℕ) (hn : n < 2048) :
    rowAt (F := Ideal) X n (ix2 (0 : Fin 1) b) * sc (ix2 (0 : Fin 1) b) = a n := by
  refine Eq.trans ?_ (h ⟨n, hn⟩)
  refine congrArg (fun i => X (ix2 i b) * sc (ix2 (0 : Fin 1) b)) (Fin.ext ?_)
  show min n 2047 = n
  omega

theorem pay12_at (s : FVec Ideal S16 .f32) (row : FVec Ideal S1x16 .f32) :
    k1_pay12 (F := Ideal) sc s row (ix1 b) = if 1 ≤ s (ix1 b) + row (ix2 (0 : Fin 1) b) * sc (ix2 (0 : Fin 1) b)
      then s (ix1 b) + row (ix2 (0 : Fin 1) b) * sc (ix2 (0 : Fin 1) b) - 1 else s (ix1 b) + row (ix2 (0 : Fin 1) b) * sc (ix2 (0 : Fin 1) b) := by
  pointwise [k1_pay1, k1_pay2, k1_pay3, k1_pay5, k1_pay7, k1_pay12]
theorem pay13_at (s : FVec Ideal S16 .f32) (k : IVec S16 32) (row : FVec Ideal S1x16 .f32) :
    k1_pay13 (F := Ideal) sc s k row (ix1 b) = IntOp.addi (k (ix1 b))
      (BitVec.setWidth 32 (BitVec.ofBool (decide ((1 : EReal) ≤ s (ix1 b) + row (ix2 (0 : Fin 1) b) * sc (ix2 (0 : Fin 1) b))))) := by
  pointwise [k1_pay1, k1_pay2, k1_pay3, k1_pay5, k1_pay7, k1_pay13]
theorem pay1_at : k1_pay1 (F := Ideal) (ix1 b) = (0 : EReal) := by
  pointwise [k1_pay1]
theorem pay2_at : k1_pay2 (ix1 b) = 0#32 := by
  pointwise [k1_pay2]
theorem pay4_at (row : FVec Ideal S1x16 .f32) :
    k1_pay4 (F := Ideal) sc row (ix2 (0 : Fin 1) b) = row (ix2 (0 : Fin 1) b) * sc (ix2 (0 : Fin 1) b) := by
  pointwise [k1_pay3, k1_pay4]
theorem pay6_at (s : FVec Ideal S16 .f32) (row : FVec Ideal S1x16 .f32) :
    k1_pay6 (F := Ideal) sc s row (ix2 (0 : Fin 1) b) = s (ix1 b) + row (ix2 (0 : Fin 1) b) * sc (ix2 (0 : Fin 1) b) := by
  pointwise [k1_pay3, k1_pay5, k1_pay6]
theorem pay9_at (s : FVec Ideal S16 .f32) (row : FVec Ideal S1x16 .f32) :
    k1_pay9 (F := Ideal) sc s row (ix2 (0 : Fin 1) b) = if 1 ≤ s (ix1 b) + row (ix2 (0 : Fin 1) b) * sc (ix2 (0 : Fin 1) b)
      then 1 - s (ix1 b) else row (ix2 (0 : Fin 1) b) * sc (ix2 (0 : Fin 1) b) := by
  pointwise [k1_pay3, k1_pay5, k1_pay7, k1_pay8, k1_pay9]
theorem pay10_at (s : FVec Ideal S16 .f32) (row : FVec Ideal S1x16 .f32) :
    k1_pay10 (F := Ideal) sc s row (ix2 (0 : Fin 1) b) = row (ix2 (0 : Fin 1) b) * sc (ix2 (0 : Fin 1) b)
      - if 1 ≤ s (ix1 b) + row (ix2 (0 : Fin 1) b) * sc (ix2 (0 : Fin 1) b) then 1 - s (ix1 b) else row (ix2 (0 : Fin 1) b) * sc (ix2 (0 : Fin 1) b) := by
  pointwise [k1_pay3, k1_pay5, k1_pay7, k1_pay8, k1_pay10]
theorem pay11_at (k : IVec S16 32) : k1_pay11 k (ix2 (0 : Fin 1) b) = k (ix1 b) := by
  pointwise [k1_pay11]
theorem pay14_at (k : IVec S16 32) : k1_pay14 k (ix2 (0 : Fin 1) b) = k (ix1 b) := by
  pointwise [k1_pay14]

/-- The two carried values are the integral and the count. -/
theorem state_at (h : ∀ t : Fin 2048, X (ix2 t b) * sc (ix2 (0 : Fin 1) b) = a t.val) (n : ℕ) (hn : n ≤ 2048) :
    (scanState (F := Ideal) X sc n).1 (ix1 b) = integ a n ∧ (scanState (F := Ideal) X sc n).2 (ix1 b) = BitVec.ofNat 32 (count a n) := by
  induction n with
  | zero => exact ⟨pay1_at b, pay2_at b⟩
  | succ n ih =>
    obtain ⟨h1, h2⟩ := ih (by omega)
    have hr := row_alpha X sc a b h n (by omega)
    constructor
    · refine (pay12_at sc b _ _).trans ?_
      rw [h1, hr]
      rfl
    · refine (pay13_at sc b _ _ _).trans ?_
      rw [h1, h2, hr, count_succ]
      unfold level
      by_cases hf : (1 : EReal) ≤ integ a n + a n
      · rw [if_pos hf, decide_eq_true hf, BitVec.ofNat_add]
        rfl
      · rw [if_neg hf, decide_eq_false hf, BitVec.ofNat_add]
        rfl

variable (h : ∀ t : Fin 2048, X (ix2 t b) * sc (ix2 (0 : Fin 1) b) = a t.val) (t : Fin 2048)
include h
theorem scanAlpha_at : scanAlpha (F := Ideal) X sc (ix2 t b) = a t.val :=
  (pay4_at sc b _).trans (row_alpha X sc a b h t.val t.isLt)
theorem scanFire_at : scanFire (F := Ideal) X sc (ix2 t b) = level a t.val := by
  refine (pay6_at sc b (scanState X sc t.val).1 (rowAt (F := Ideal) X t.val)).trans ?_
  rw [row_alpha X sc a b h _ t.isLt, (state_at X sc a b h _ t.isLt.le).1]
  rfl
theorem scanU_at : scanU (F := Ideal) X sc (ix2 t b) = part a t.val := by
  refine (pay9_at sc b (scanState X sc t.val).1 (rowAt (F := Ideal) X t.val)).trans ?_
  rw [row_alpha X sc a b h _ t.isLt, (state_at X sc a b h _ t.isLt.le).1]
  rfl
theorem scanV_at : scanV (F := Ideal) X sc (ix2 t b) = a t.val - part a t.val := by
  have e := pay10_at sc b (scanState X sc t.val).1 (rowAt (F := Ideal) X t.val)
  rw [row_alpha X sc a b h _ t.isLt, (state_at X sc a b h _ t.isLt.le).1] at e
  unfold scanV
  exact e
theorem scanSlot_at : scanSlot (F := Ideal) X sc (ix2 t b) = BitVec.ofNat 32 (count a t.val) :=
  (pay11_at b _).trans (state_at X sc a b h _ t.isLt.le).2
theorem scanCount_at : scanCount (F := Ideal) X sc (ix2 (0 : Fin 1) b) = BitVec.ofNat 32 (count a 2048) :=
  (pay14_at b _).trans (state_at X sc a b h _ le_rfl).2
end Steps

theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] :=
  (by decide +kernel : ∀ t : Fin grid1.N, _)

/-- The scan's two operands. -/
abbrev opX (c : Dev nD) : FVec Ideal S2048x16 .f32 := iblk1 (V3 m ρ) c 0 t1_0
abbrev opS (c : Dev nD) : FVec Ideal S1x16 .f32 := iblk1 (V3 m ρ) c 1 t1_0

/-- The operands of the scan multiply to the scaled weights. -/
theorem scan_alpha (c : Dev nD) (b : Fin 16) (t : Fin 2048) :
    opX m ρ c (ix2 t b) * opS m ρ c (ix2 (0 : Fin 1) b) = alphaN (args m ρ c) b t.val := by
  rw [alphaN_of]
  refine congrArg₂ (· * ·) (Eq.trans ?_ (rawT_at m ρ c t b)) (Eq.trans ?_ (scale_at m ρ c b))
  · blk_ext [opX, iblk1, V3, idx1 t1_0]
  · blk_ext [opS, iblk1, V3, idx1 t1_0]

section Arrays
variable (c : Dev nD)

/-- The scaled weights. -/
theorem arr_Alpha (b : Fin 16) (t : Fin 2048) : (W4 m ρ c (Proc.devRef .tc main_v21_0) : FVec Ideal S2048x16 .f32) (ix2 t b) = alphaN (args m ρ c) b t.val := by
  refine Eq.trans (congrFun ((W4_arr m ρ c 2).trans ((dat1 (V3 m ρ) c).arrAt_eq_of_after_last 2 t1_0 (by decide +kernel) (scanAlpha (opX m ρ c) (opS m ρ c)) fun j => ?_)) (ix2 t b)) ?_
  · blk_simp
    rw [after1_2]
  · exact scanAlpha_at _ _ _ b (scan_alpha m ρ c b) t
/-- The running integrals. -/
theorem arr_Fire (b : Fin 16) (t : Fin 2048) : (W4 m ρ c (Proc.devRef .tc main_v21_1) : FVec Ideal S2048x16 .f32) (ix2 t b) = level (alphaN (args m ρ c) b) t.val := by
  refine Eq.trans (congrFun ((W4_arr m ρ c 3).trans ((dat1 (V3 m ρ) c).arrAt_eq_of_after_last 3 t1_0 (by decide +kernel) (scanFire (opX m ρ c) (opS m ρ c)) fun j => ?_)) (ix2 t b)) ?_
  · blk_simp
    rw [after1_3]
  · exact scanFire_at _ _ _ b (scan_alpha m ρ c b) t
/-- The parts that go to the label under way. -/
theorem arr_U (b : Fin 16) (t : Fin 2048) : (W4 m ρ c (Proc.devRef .tc main_v21_2) : FVec Ideal S2048x16 .f32) (ix2 t b) = part (alphaN (args m ρ c) b) t.val := by
  refine Eq.trans (congrFun ((W4_arr m ρ c 4).trans ((dat1 (V3 m ρ) c).arrAt_eq_of_after_last 4 t1_0 (by decide +kernel) (scanU (opX m ρ c) (opS m ρ c)) fun j => ?_)) (ix2 t b)) ?_
  · blk_simp
    rw [after1_4]
  · exact scanU_at _ _ _ b (scan_alpha m ρ c b) t
/-- The parts that go to the next label. -/
theorem arr_V (b : Fin 16) (t : Fin 2048) : (W4 m ρ c (Proc.devRef .tc main_v21_3) : FVec Ideal S2048x16 .f32) (ix2 t b) = alphaN (args m ρ c) b t.val - part (alphaN (args m ρ c) b) t.val := by
  refine Eq.trans (congrFun ((W4_arr m ρ c 5).trans ((dat1 (V3 m ρ) c).arrAt_eq_of_after_last 5 t1_0 (by decide +kernel) (scanV (opX m ρ c) (opS m ρ c)) fun j => ?_)) (ix2 t b)) ?_
  · blk_simp
    rw [after1_5]
  · exact scanV_at _ _ _ b (scan_alpha m ρ c b) t
/-- The label numbers. -/
theorem arr_Slot (b : Fin 16) (t : Fin 2048) : (W4 m ρ c (Proc.devRef .tc main_v21_4) : IVec S2048x16 32) (ix2 t b) = BitVec.ofNat 32 (count (alphaN (args m ρ c) b) t.val) := by
  refine Eq.trans (congrFun ((W4_arr m ρ c 6).trans ((dat1 (V3 m ρ) c).arrAt_eq_of_after_last 6 t1_0 (by decide +kernel) (scanSlot (opX m ρ c) (opS m ρ c)) fun j => ?_)) (ix2 t b)) ?_
  · blk_simp
    rw [after1_6]
  · exact scanSlot_at _ _ _ b (scan_alpha m ρ c b) t
/-- The number of fires in all. -/
theorem arr_Count (b : Fin 16) : (W4 m ρ c (Proc.devRef .tc main_v21_5) : IVec S1x16 32) (ix2 (0 : Fin 1) b) = BitVec.ofNat 32 (count (alphaN (args m ρ c) b) 2048) := by
  refine Eq.trans (congrFun ((W4_arr m ρ c 7).trans ((dat1 (V3 m ρ) c).arrAt_eq_of_after_last 7 t1_0 (by decide +kernel) (scanCount (opX m ρ c) (opS m ρ c)) fun j => ?_)) (ix2 (0 : Fin 1) b)) ?_
  · blk_simp
    rw [after1_7]
  · exact scanCount_at _ _ _ b (scan_alpha m ρ c b)

/-! The results but the embeddings. -/

theorem result_tokens (b : Fin 16) : (W7 m ρ c (Proc.devRef .tc main_v17) : FVec Ideal S16 .f32) (ix1 b) = tokens (args m ρ c) b := by
  refine Eq.trans (congrFun ?_ (ix1 b)) (tokens_at m ρ c b)
  rw [W7_of m ρ c main_v17 (by decide), W6_of m ρ c main_v17 (by decide +kernel), W5_of m ρ c main_v17 (by decide), W4_of m ρ c main_v17 (by decide +kernel)]
theorem result_alphas (b : Fin 16) (t : Fin 2048) : (W7 m ρ c (Proc.devRef .tc main_v38) : FVec Ideal S16x2048 .f32) (ix2 b t) = alpha (args m ρ c) b t := by
  rw [← alphaN_of]
  refine Eq.trans ?_ (arr_Alpha m ρ c b t)
  unfold W7
  after_reads_at
  rw [W6_of m ρ c main_v21_0 (by decide +kernel), W5_of m ρ c main_v21_0 (by decide)]
theorem result_fires (b : Fin 16) (t : Fin 2048) : (W7 m ρ c (Proc.devRef .tc main_v39) : FVec Ideal S16x2048 .f32) (ix2 b t) = level (alphaN (args m ρ c) b) t.val := by
  refine Eq.trans ?_ (arr_Fire m ρ c b t)
  unfold W7
  after_reads_at
  rw [W6_of m ρ c main_v21_1 (by decide +kernel), W5_of m ρ c main_v21_1 (by decide)]
end Arrays
end Cert.KernelIdeal.Own
end
-- ==== Proof.Value.KernelEmbed.lean ====
module

public import proofs.«01_k».proof.Proof.Value.KernelScan
public import Idealize.ShloMosaic.Lib.WordArith

/-! What the kernel's last stage leaves: for every label the weighted sum of the hidden states over the frames. -/

@[expose] public section
set_option maxRecDepth 16384
noncomputable section
namespace Cert.KernelIdeal.Own
open Idealize.ShloMosaic Idealize.ShloMosaic.TcCoe Idealize.SL.Sem Idealize.ShloMosaic.StableHlo
open Cert.KernelIdeal Cert.KernelIdeal.Gen Cert.Cif
open Idealize.ShloMosaic.Pipeline (Dat Cfg Window)

/-- A one-hot entry: the value where the label's number is the frame's. -/
theorem pick (j k : ℕ) (hj : j < 2 ^ 32) (hk : k < 2 ^ 32) (x : EReal) :
    Scalar.select (IntOp.cmpi CmpIPredicate.eq (BitVec.ofNat 32 j) (BitVec.ofNat 32 k)) x 0 = if j = k then x else 0 := by
  by_cases h : j = k
  · subst h
    rw [if_pos rfl, show IntOp.cmpi CmpIPredicate.eq (BitVec.ofNat 32 j) (BitVec.ofNat 32 j) = 1#1 from congrArg BitVec.ofBool (beq_self_eq_true _)]
    rfl
  · rw [if_neg h]
    have : BitVec.ofNat 32 j ≠ BitVec.ofNat 32 k := fun e => h (by
      have := congrArg BitVec.toNat e
      rwa [BitVec.toNat_ofNat, BitVec.toNat_ofNat, Nat.mod_eq_of_lt hj, Nat.mod_eq_of_lt hk] at this)
    rw [show IntOp.cmpi CmpIPredicate.eq (BitVec.ofNat 32 j) (BitVec.ofNat 32 k) = 0#1 from congrArg BitVec.ofBool (beq_false_of_ne this)]
    rfl

/-- The weight a frame's row gives to label `j`, as the stage computes it. -/
def entry (u v : FVec Ideal S1x1x512 .f32) (kA : IVec S1x1x512 32) (rm : FVec Ideal S1x1x256 .f32) (j : Fin 256) (x : Fin 512) : EReal :=
  (Scalar.select (IntOp.cmpi CmpIPredicate.eq (BitVec.ofNat 32 j.val) (kA (ix3 (0 : Fin 1) (0 : Fin 1) x))) (u (ix3 (0 : Fin 1) (0 : Fin 1) x) : EReal) 0
    + Scalar.select (IntOp.cmpi CmpIPredicate.eq (BitVec.ofNat 32 j.val) (IntOp.addi (kA (ix3 (0 : Fin 1) (0 : Fin 1) x)) 1#32)) (v (ix3 (0 : Fin 1) (0 : Fin 1) x) : EReal) 0)
    * rm (ix3 (0 : Fin 1) (0 : Fin 1) j)

/-- A first block's result: the four products of the split operands. -/
theorem emb_pay (h : FVec Ideal S1x512x512 .f32) (u v : FVec Ideal S1x1x512 .f32) (kA : IVec S1x1x512 32)
    (rm : FVec Ideal S1x1x256 .f32) (j : Fin 256) (d : Fin 512) :
    k2_pay2 (F := Ideal) (k2_pay6 kA u v rm) (k2_pay7 kA u v rm) (k2_pay8 h) (k2_pay9 h) (k2_pay10 kA u v rm h) (ix3 (0 : Fin 1) j d) =
      ∑ x : Fin 512, entry u v kA rm j x * h (ix3 (0 : Fin 1) x d)
      + ∑ x : Fin 512, entry u v kA rm j x * (h (ix3 (0 : Fin 1) x d) - h (ix3 (0 : Fin 1) x d))
      + ∑ x : Fin 512, (entry u v kA rm j x - entry u v kA rm j x) * h (ix3 (0 : Fin 1) x d)
      + ∑ x : Fin 512, (entry u v kA rm j x - entry u v kA rm j x) * (h (ix3 (0 : Fin 1) x d) - h (ix3 (0 : Fin 1) x d)) := by
  pointwise [entry, k2_pay2, k2_pay1, k2_pay4, k2_pay6, k2_pay7, k2_pay8, k2_pay9, k2_pay10, k2_pay5]

/-- A later block's result: the same added to what was there. -/
theorem emb_pay_next (A B : FVec Ideal S256x512 .bf16) (C D : FVec Ideal S512x512 .bf16) (E : FVec Ideal S256x512 .f32)
    (acc : FVec Ideal S1x256x512 .f32) (j : Fin 256) (d : Fin 512) :
    k2_pay3 (F := Ideal) A B C D E acc (ix3 (0 : Fin 1) j d) = acc (ix3 (0 : Fin 1) j d) + k2_pay2 (F := Ideal) A B C D E (ix3 (0 : Fin 1) j d) := by
  pointwise [k2_pay2, k2_pay1, k2_pay3]

/-- What label `j` gets from frame `n` in one channel. -/
def gain (a hs : ℕ → EReal) (j n : ℕ) : EReal := if j < count a 2048 then share a j n * hs n else 0

/-- Over finite weights and hidden states the four products add up to one. -/
theorem emb_block (h : FVec Ideal S1x512x512 .f32) (u v : FVec Ideal S1x1x512 .f32) (kA : IVec S1x1x512 32)
    (rm : FVec Ideal S1x1x256 .f32) (j : Fin 256) (d : Fin 512) (a hs : ℕ → EReal) (o : ℕ) (ho : o + 512 ≤ 2048)
    (ha : ∀ n, a n ≠ ⊤ ∧ a n ≠ ⊥) (hh : ∀ n, hs n ≠ ⊤ ∧ hs n ≠ ⊥)
    (eu : ∀ x : Fin 512, u (ix3 (0 : Fin 1) (0 : Fin 1) x) = part a (o + x.val))
    (ev : ∀ x : Fin 512, v (ix3 (0 : Fin 1) (0 : Fin 1) x) = a (o + x.val) - part a (o + x.val))
    (ek : ∀ x : Fin 512, kA (ix3 (0 : Fin 1) (0 : Fin 1) x) = BitVec.ofNat 32 (count a (o + x.val)))
    (er : rm (ix3 (0 : Fin 1) (0 : Fin 1) j) = if j.val < count a 2048 then (1 : EReal) else 0)
    (eh : ∀ x : Fin 512, h (ix3 (0 : Fin 1) x d) = hs (o + x.val)) :
    k2_pay2 (F := Ideal) (k2_pay6 kA u v rm) (k2_pay7 kA u v rm) (k2_pay8 h) (k2_pay9 h) (k2_pay10 kA u v rm h) (ix3 (0 : Fin 1) j d)
      = ∑ x : Fin 512, gain a hs j.val (o + x.val) := by
  have ee : ∀ x : Fin 512, entry u v kA rm j x = share a j.val (o + x.val) * if j.val < count a 2048 then (1 : EReal) else 0 := by
    intro x
    have hx := x.isLt
    have hc := count_le a (o + x.val)
    unfold entry share
    rw [eu, ev, ek, er, show IntOp.addi (BitVec.ofNat 32 (count a (o + x.val))) 1#32 = BitVec.ofNat 32 (count a (o + x.val) + 1) from (BitVec.ofNat_add _ _).symm,
      pick _ _ (by omega) (by omega), pick _ _ (by omega) (by omega)]
  have e0 : ∀ x : Fin 512, entry u v kA rm j x - entry u v kA rm j x = 0 := fun x => by
    rw [ee]
    refine sub_self_of_finite (finite_mul (finite_share a ha _ _) ?_)
    split
    · exact finite_one
    · exact finite_zero
  have h0 : ∀ x : Fin 512, (h (ix3 (0 : Fin 1) x d) - h (ix3 (0 : Fin 1) x d) : EReal) = 0 := fun x => by
    rw [eh]
    exact sub_self_of_finite (hh _)
  refine (emb_pay h u v kA rm j d).trans ?_
  simp only [e0, h0, zero_mul, mul_zero, Finset.sum_const_zero, add_zero]
  refine Finset.sum_congr rfl fun x _ => ?_
  rw [ee, eh, gain]
  split
  · rw [mul_one]
  · rw [mul_zero, zero_mul]

theorem embFirst_eq (x0 : Vec Ideal S1x512x512 .f32) (x1 x2 : Vec Ideal S1x1x512 .f32) (x3 : Vec Ideal S1x1x512 .i32) (x4 : Vec Ideal S1x1x256 .f32) :
    embFirst (F := Ideal) x0 x1 x2 x3 x4 = k2_pay2 (k2_pay6 x3 x1 x2 x4) (k2_pay7 x3 x1 x2 x4) (k2_pay8 x0) (k2_pay9 x0) (k2_pay10 x3 x1 x2 x4 x0) := by
  unfold embFirst
  frame_out
theorem embNext_eq (x0 : Vec Ideal S1x512x512 .f32) (x1 x2 : Vec Ideal S1x1x512 .f32) (x3 : Vec Ideal S1x1x512 .i32) (x4 : Vec Ideal S1x1x256 .f32)
    (acc : Vec Ideal S1x256x512 .f32) :
    embNext (F := Ideal) x0 x1 x2 x3 x4 acc = k2_pay3 (k2_pay6 x3 x1 x2 x4) (k2_pay7 x3 x1 x2 x4) (k2_pay8 x0) (k2_pay9 x0) (k2_pay10 x3 x1 x2 x4 x0) acc := by
  unfold embNext
  frame_out

/-- The windows' block indices: batch `t / 4` and the quarter `t % 4` of its frames. -/
theorem idx2 : ∀ t : Fin cfg2.N, win2_0.index t = ![t.val / 4, t.val % 4, 0] ∧ win2_1.index t = ![t.val / 4, 0, t.val % 4] ∧ win2_2.index t = ![t.val / 4, 0, t.val % 4]
    ∧ win2_3.index t = ![t.val / 4, 0, t.val % 4] ∧ win2_4.index t = ![t.val / 4, 0, 0] ∧ win2_5.index t = ![t.val / 4, 0, 0] :=
  (by decide +kernel : ∀ t : Fin grid2.N, _)

variable (m : (ℓ : Loc nD τ sig) → Buf (Elt Ideal) ℓ) (ρ : Dev nD → PrngReg) (c : Dev nD)

theorem u_at (b : Fin 16) (t : Fin 2048) : (W5 m ρ c (Proc.devRef .tc main_v23) : FVec Ideal S16x1x2048 .f32) (ix3 b (0 : Fin 1) t) = part (alphaN (args m ρ c) b) t.val := by
  refine Eq.trans ?_ (arr_U m ρ c b t)
  unfold W5
  after_reads_at
theorem v_at (b : Fin 16) (t : Fin 2048) : (W5 m ρ c (Proc.devRef .tc main_v25) : FVec Ideal S16x1x2048 .f32) (ix3 b (0 : Fin 1) t) = alphaN (args m ρ c) b t.val - part (alphaN (args m ρ c) b) t.val := by
  refine Eq.trans ?_ (arr_V m ρ c b t)
  unfold W5
  after_reads_at
theorem k_at (b : Fin 16) (t : Fin 2048) : (W5 m ρ c (Proc.devRef .tc main_v27) : IVec S16x1x2048 32) (ix3 b (0 : Fin 1) t) = BitVec.ofNat 32 (count (alphaN (args m ρ c) b) t.val) := by
  refine Eq.trans ?_ (arr_Slot m ρ c b t)
  unfold W5
  after_reads_at

/-- A comparison of two small numbers, converted to a float. -/
theorem below (j k : ℕ) (hj : j < 2 ^ 31) (hk : k < 2 ^ 31) :
    (FloatOps.uitofp FTy.f32 (IntOp.cmpi CmpIPredicate.slt (BitVec.ofNat 32 j) (BitVec.ofNat 32 k)) : Ideal .f32) = (if j < k then 1 else 0 : EReal) := by
  have hs : (BitVec.ofNat 32 j).slt (BitVec.ofNat 32 k) = decide (j < k) := by
    rw [BitVec.slt, WordArith.toInt_ofNat_small _ hj, WordArith.toInt_ofNat_small _ hk]
    exact decide_eq_decide.mpr Int.ofNat_lt
  rw [show IntOp.cmpi CmpIPredicate.slt (BitVec.ofNat 32 j) (BitVec.ofNat 32 k) = BitVec.ofBool (decide (j < k)) from congrArg BitVec.ofBool hs]
  by_cases h : j < k
  · rw [if_pos h, decide_eq_true h]
    show (((1 : ℕ) : ℝ) : EReal) = 1
    simp
  · rw [if_neg h, decide_eq_false h]
    show (((0 : ℕ) : ℝ) : EReal) = 0
    simp

theorem rm_at (b : Fin 16) (j : Fin 256) : (W5 m ρ c (Proc.devRef .tc main_v36) : FVec Ideal S16x1x256 .f32) (ix3 b (0 : Fin 1) j) = if j.val < count (alphaN (args m ρ c) b) 2048 then (1 : EReal) else 0 := by
  have := count_le (alphaN (args m ρ c) b) 2048
  rw [← below _ _ (by omega) (by omega), ← arr_Count m ρ c b]
  unfold W5
  after_reads_at
theorem iblk2_h (t : Fin cfg2.N) (b : Fin 16) (hb : t.val / 4 = b.val) (n : Fin 2048) (x : Fin 512) (hn : n.val = t.val % 4 * 512 + x.val) (d : Fin 512) :
    (iblk2 (V5 m ρ) c 0 t : FVec Ideal S1x512x512 .f32) (ix3 (0 : Fin 1) x d) = (args m ρ c).h b n d := by
  refine Eq.trans ?_ (congrFun (W5_args m ρ c main_arg0 (by decide)) (ix3 b n d))
  blk_ext [iblk2, V5, idx2 t]

/-- All 2048 frames together. -/
theorem sum_gain (A : Args) (b : Fin 16) (j : Fin 256) (d : Fin 512) :
    ∑ n ∈ Finset.range ((3 + 1) * 512), gain (alphaN A b) (hN A b d) j.val n = embed A b j d := by
  unfold embed
  rw [upto_eq_sum]
  split
  · exact Finset.sum_congr rfl fun n _ => if_pos ‹_›
  · exact Finset.sum_eq_zero fun n _ => if_neg ‹_›
theorem embed_congr (A : Args) {b b' : Fin 16} {j j' : Fin 256} {d d' : Fin 512} (hb : b.val = b'.val) (hj : j.val = j'.val) (hd : d.val = d'.val) :
    embed A b j d = embed A b' j' d' := by
  rw [Fin.ext hb, Fin.ext hj, Fin.ext hd]

section Blocks
variable (ha : ∀ b n, alphaN (args m ρ c) b n ≠ ⊤ ∧ alphaN (args m ρ c) b n ≠ ⊥) (hh : ∀ b d n, hN (args m ρ c) b d n ≠ ⊤ ∧ hN (args m ρ c) b d n ≠ ⊥)
  (b : Fin 16) (j : Fin 256) (d : Fin 512)
include ha hh

/-- One point's part of a label's embedding: the 512 frames of its quarter. -/
theorem emb_point (t : Fin cfg2.N) (hb : t.val / 4 = b.val) :
    embFirst (F := Ideal) (iblk2 (V5 m ρ) c 0 t) (iblk2 (V5 m ρ) c 1 t) (iblk2 (V5 m ρ) c 2 t) (iblk2 (V5 m ρ) c 3 t) (iblk2 (V5 m ρ) c 4 t) (ix3 (0 : Fin 1) j d)
      = ∑ x : Fin 512, gain (alphaN (args m ρ c) b) (hN (args m ρ c) b d) j.val (t.val % 4 * 512 + x.val) := by
  have hq : t.val % 4 < 4 := Nat.mod_lt _ (by decide)
  refine (congrFun (embFirst_eq _ _ _ _ _) _).trans (emb_block _ _ _ _ _ j d _ _ (t.val % 4 * 512) (by omega) (ha b) (hh b d) ?_ ?_ ?_ ?_ ?_)
  · intro x
    refine Eq.trans ?_ (u_at m ρ c b ⟨t.val % 4 * 512 + x.val, by omega⟩)
    blk_ext [iblk2, V5, idx2 t]
  · intro x
    refine Eq.trans ?_ (v_at m ρ c b ⟨t.val % 4 * 512 + x.val, by omega⟩)
    blk_ext [iblk2, V5, idx2 t]
  · intro x
    refine Eq.trans ?_ (k_at m ρ c b ⟨t.val % 4 * 512 + x.val, by omega⟩)
    blk_ext [iblk2, V5, idx2 t]
  · refine Eq.trans ?_ (rm_at m ρ c b j)
    blk_ext [iblk2, V5, idx2 t]
  · intro x
    exact (iblk2_h m ρ c t b hb _ x rfl d).trans (hN_of _ b d ⟨t.val % 4 * 512 + x.val, by omega⟩).symm

/-- What the block holds after the point of quarter `s` of batch `b`. -/
theorem emb_sum (s : ℕ) (hs : s < 4) (t : Fin cfg2.N) (ht : t.val = 4 * b.val + s) :
    embAt (F := Ideal) (V5 m ρ) c t.val t.isLt (ix3 (0 : Fin 1) j d)
      = ∑ n ∈ Finset.range ((s + 1) * 512), gain (alphaN (args m ρ c) b) (hN (args m ρ c) b d) j.val n := by
  induction s generalizing t with
  | zero =>
    refine (congrFun (embAt_first (V5 m ρ) c t (by omega)) _).trans ((emb_point m ρ c ha hh b j d t (by omega)).trans ?_)
    rw [show t.val % 4 = 0 by omega, Finset.sum_range]
    simp only [Nat.zero_mul, Nat.zero_add]
  | succ s ih =>
    refine (congrFun (embAt_next (V5 m ρ) c t (by omega)) _).trans ((congrFun (embNext_eq _ _ _ _ _ _) _).trans ((emb_pay_next _ _ _ _ _ _ j d).trans ?_))
    rw [show (s + 1 + 1) * 512 = (s + 1) * 512 + 512 by omega, Finset.sum_range_add]
    refine congrArg₂ (· + ·) (ih (by omega) ⟨t.val - 1, by omega⟩ (show t.val - 1 = _ by omega)) ?_
    refine (congrFun (embFirst_eq _ _ _ _ _).symm _).trans ((emb_point m ρ c ha hh b j d t (by omega)).trans ?_)
    rw [show t.val % 4 = s + 1 by omega, Finset.sum_range]

/-- The embeddings. -/
theorem result_embeds : (W7 m ρ c (Proc.devRef .tc main_v37) : FVec Ideal S16x256x512 .f32) (ix3 b j d) = embed (args m ρ c) b j d := by
  refine Eq.trans (congrFun (((W7_of m ρ c main_v37 (by decide)).trans (W6_arr m ρ c 5)).trans ((dat2 (V5 m ρ) c).arrAt_eq_of_covers 5
    (fun y : S16x256x512.Idx => embed (args m ρ c) (y 0) (y 1) (y 2) : FVec Ideal S16x256x512 .f32) (by decide +kernel) fun t hf y => ?_)) (ix3 b j d)) rfl
  blk_simp
  rw [after2_5]
  idx_vars y
  obtain rfl : y0 = 0 := Subsingleton.elim _ _
  have h3 : t.val % 4 = 3 := (flush2_5 t).mp hf
  have hN : t.val < 64 := lt_of_lt_of_eq t.isLt N_2
  refine (emb_sum m ρ c ha hh ⟨t.val / 4, by omega⟩ y1 y2 3 (by decide) t (show t.val = 4 * (t.val / 4) + 3 by omega)).trans ?_
  refine (sum_gain _ _ _ _).trans (embed_congr _ ?_ ?_ ?_)
  · blk_simp [idx2 t]
    rfl
  · blk_simp [idx2 t]
  · blk_simp [idx2 t]
end Blocks
end Cert.KernelIdeal.Own
end
-- ==== Proof.Value.ReferenceLoop.lean ====
module

public import proofs.«01_k».proof.Proof.ReferenceIdeal.Frame
public import proofs.«01_k».proof.Proof.Value.Spec
public import Idealize.ShloMosaic.Lib.Pipeline.Value
public import Idealize.ShloMosaic.Lib.DynamicIndex

/-! The reference's loop: before every trip its carried buffers hold the common scan's integral and embedding under way, and
    the rows written so far hold the integrals and embeddings of the earlier frames. -/

@[expose] public section
set_option maxRecDepth 16384
noncomputable section
namespace Cert.ReferenceIdeal.Own
open Idealize.ShloMosaic Idealize.ShloMosaic.TcCoe Idealize.SL.Sem Idealize.ShloMosaic.StableHlo
open Cert.ReferenceIdeal Cert.ReferenceIdeal.Gen Cert.ReferenceIdeal.Value Cert.Cif

section Rows
variable {α : Type}

theorem slice_row (X : S2048x16.Idx → α) (f : Fin 2 → Int) (h : S2048x16.Slices (fun _ => 0) S1x16) (n : ℕ) (hn : n < 2048)
    (h0 : f 0 = (n : Int)) (h1 : f 1 = 0) (b : Fin 16) : Host.dynamicSlice S1x16 X f h (ix2 (0 : Fin 1) b) = X (ix2 (⟨n, hn⟩ : Fin 2048) b) := by
  have hoff : S2048x16.Slices ![n, 0] S1x16 := ⟨rfl, fun a => by fin_cases a; exact hn; exact le_rfl⟩
  rw [Host.dynamicSlice_eq_extractStridedSlice S1x16 X f ![n, 0] h hoff (fun a => by fin_cases a; exact h0; exact h1)]
  pointwise

theorem slice_plane (X : S2048x16x512.Idx → α) (f : Fin 3 → Int) (h : S2048x16x512.Slices (fun _ => 0) S1x16x512) (n : ℕ) (hn : n < 2048)
    (h0 : f 0 = (n : Int)) (h1 : f 1 = 0) (h2 : f 2 = 0) (b : Fin 16) (d : Fin 512) :
    Host.dynamicSlice S1x16x512 X f h (ix3 (0 : Fin 1) b d) = X (ix3 (⟨n, hn⟩ : Fin 2048) b d) := by
  have hoff : S2048x16x512.Slices ![n, 0, 0] S1x16x512 := ⟨rfl, fun a => by fin_cases a; exact hn; exact le_rfl; exact le_rfl⟩
  rw [Host.dynamicSlice_eq_extractStridedSlice S1x16x512 X f ![n, 0, 0] h hoff (fun a => by fin_cases a; exact h0; exact h1; exact h2)]
  pointwise

theorem update_row (X : S2048x16.Idx → α) (U : S1x16.Idx → α) (f : Fin 2 → Int) (h : S2048x16.Slices (fun _ => 0) S1x16) (n : ℕ) (hn : n < 2048)
    (h0 : f 0 = (n : Int)) (h1 : f 1 = 0) (t : Fin 2048) (b : Fin 16) :
    Host.dynamicUpdateSlice X U f h (ix2 t b) = if t.val = n then U (ix2 (0 : Fin 1) b) else X (ix2 t b) := by
  have hoff : S2048x16.Slices ![n, 0] S1x16 := ⟨rfl, fun a => by fin_cases a; exact hn; exact le_rfl⟩
  have hs : ∀ a : Fin 2, f a = ((![n, 0] : Fin 2 → ℕ) a : Int) := fun a => by fin_cases a; exact h0; exact h1
  rw [Host.dynamicUpdateSlice_eq_updateSlice X U f h ![n, 0] (fun a => by have := hoff.2 a; rw [hs a]; omega) hoff]
  pointwise
  by_cases e : t.val = n
  · rw [if_pos e, dif_pos (by omega)]
    exact congrArg (fun i => U (ix2 i b)) (Subsingleton.elim _ _)
  · rw [if_neg e, dif_neg (by omega)]

theorem update_plane (X : S2048x16x512.Idx → α) (U : S1x16x512.Idx → α) (f : Fin 3 → Int) (h : S2048x16x512.Slices (fun _ => 0) S1x16x512) (n : ℕ) (hn : n < 2048)
    (h0 : f 0 = (n : Int)) (h1 : f 1 = 0) (h2 : f 2 = 0) (t : Fin 2048) (b : Fin 16) (d : Fin 512) :
    Host.dynamicUpdateSlice X U f h (ix3 t b d) = if t.val = n then U (ix3 (0 : Fin 1) b d) else X (ix3 t b d) := by
  have hoff : S2048x16x512.Slices ![n, 0, 0] S1x16x512 := ⟨rfl, fun a => by fin_cases a; exact hn; exact le_rfl; exact le_rfl⟩
  have hs : ∀ a : Fin 3, f a = ((![n, 0, 0] : Fin 3 → ℕ) a : Int) := fun a => by fin_cases a; exact h0; exact h1; exact h2
  rw [Host.dynamicUpdateSlice_eq_updateSlice X U f h ![n, 0, 0] (fun a => by have := hoff.2 a; rw [hs a]; omega) hoff]
  pointwise
  by_cases e : t.val = n
  · rw [if_pos e, dif_pos (by omega)]
    exact congrArg (fun i => U (ix3 i b d)) (Subsingleton.elim _ _)
  · rw [if_neg e, dif_neg (by omega)]
end Rows

section Pay
theorem cast_row (x : FVec Ideal S1x16 .f32) (b : Fin 16) : shapeCast S16 x shapeCasts_S1x16_S16 (ix1 b) = x (ix2 (0 : Fin 1) b) := by
  pointwise
theorem cast_plane (x : FVec Ideal S1x16x512 .f32) (b : Fin 16) (d : Fin 512) : shapeCast S16x512 x shapeCasts_S1x16x512_S16x512 (ix2 b d) = x (ix3 (0 : Fin 1) b d) := by
  pointwise
theorem fire_at (x : FVec Ideal S16 .f32) (b : Fin 16) :
    cmpf .oge x (broadcastInDim S16 ![] bcast_S_S16 (constant S_ .f32 0x3F800000#32)) (ix1 b) = BitVec.ofBool (decide ((1 : EReal) ≤ x (ix1 b))) := by
  pointwise
theorem cur_at (f : IVec S16 1) (s a : FVec Ideal S16 .f32) (b : Fin 16) :
    select f (subf (broadcastInDim S16 ![] bcast_S_S16 (constant S_ .f32 0x3F800000#32)) s) a (ix1 b) = Scalar.select (f (ix1 b)) (1 - s (ix1 b) : EReal) (a (ix1 b)) := by
  pointwise
theorem next_at (f : IVec S16 1) (s : FVec Ideal S16 .f32) (b : Fin 16) :
    select f (subf s (broadcastInDim S16 ![] bcast_S_S16 (constant S_ .f32 0x3F800000#32))) s (ix1 b) = Scalar.select (f (ix1 b)) (s (ix1 b) - 1 : EReal) (s (ix1 b)) := by
  pointwise
theorem whole_at (x : FVec Ideal S16x512 .f32) (c : FVec Ideal S16 .f32) (h : FVec Ideal S16x512 .f32) (b : Fin 16) (d : Fin 512) :
    addf x (mulf (broadcastInDim S16x512 ![0, 1] bcast_S16x1_S16x512_0_1 (broadcastInDim S16x1 ![0] bcast_S16_S16x1_0 c)) h) (ix2 b d)
      = (x (ix2 b d) + c (ix1 b) * h (ix2 b d) : EReal) := by
  pointwise
theorem rest_at (f : IVec S16 1) (a c : FVec Ideal S16 .f32) (h w : FVec Ideal S16x512 .f32) (b : Fin 16) (d : Fin 512) :
    select (broadcastInDim S16x512 ![0, 1] bcast_S16x1_S16x512_0_1 (broadcastInDim S16x1 ![0] bcast_S16_S16x1_0 f))
      (mulf (broadcastInDim S16x512 ![0, 1] bcast_S16x1_S16x512_0_1 (broadcastInDim S16x1 ![0] bcast_S16_S16x1_0 (subf a c))) h) w (ix2 b d)
      = Scalar.select (f (ix1 b)) ((a (ix1 b) - c (ix1 b)) * h (ix2 b d) : EReal) (w (ix2 b d)) := by
  pointwise
theorem up_row (x : FVec Ideal S16 .f32) (b : Fin 16) : broadcastInDim S1x16 ![1] bcast_S16_S1x16_1 x (ix2 (0 : Fin 1) b) = x (ix1 b) := by
  pointwise
theorem up_plane (x : FVec Ideal S16x512 .f32) (b : Fin 16) (d : Fin 512) :
    broadcastInDim S1x16x512 ![1, 2] bcast_S16x512_S1x16x512_1_2 x (ix3 (0 : Fin 1) b d) = x (ix2 b d) := by
  pointwise
theorem select_fire (p : Prop) [Decidable p] (x y : EReal) : Scalar.select (BitVec.ofBool (decide p)) x y = if p then x else y := by
  by_cases h : p
  · rw [decide_eq_true h, if_pos h]
    rfl
  · rw [decide_eq_false h, if_neg h]
    rfl
end Pay

/-- What the carried buffers hold before trip `k`. -/
structure Inv (A : Args) (k : ℕ) (V : Valuation τ sig (Elt Ideal)) : Prop where
  /-- The scaled weights. -/
  a : ∀ (t : Fin 2048) (b : Fin 16), (V (Proc.devRef .tc main_v53_0) : FVec Ideal S2048x16 .f32) (ix2 t b) = alphaN A b t.val
  /-- The hidden states. -/
  h : ∀ (t : Fin 2048) (b : Fin 16) (d : Fin 512), (V (Proc.devRef .tc main_v53_1) : FVec Ideal S2048x16x512 .f32) (ix3 t b d) = hN A b d t.val
  /-- The trip's number. -/
  n : V (Proc.devRef .tc main_v53_2) = (fun _ => BitVec.ofNat 32 k : IVec S_ 32)
  /-- The integral. -/
  s : ∀ b : Fin 16, (V (Proc.devRef .tc main_v53_3) : FVec Ideal S16 .f32) (ix1 b) = integ (alphaN A b) k
  /-- The embedding under way. -/
  f : ∀ (b : Fin 16) (d : Fin 512), (V (Proc.devRef .tc main_v53_4) : FVec Ideal S16x512 .f32) (ix2 b d) = frame (alphaN A b) (hN A b d) k
  /-- The rows of integrals written so far. -/
  fires : ∀ (t : Fin 2048) (b : Fin 16), t.val < k → (V (Proc.devRef .tc main_v53_5) : FVec Ideal S2048x16 .f32) (ix2 t b) = level (alphaN A b) t.val
  /-- The rows of embeddings written so far. -/
  frames : ∀ (t : Fin 2048) (b : Fin 16) (d : Fin 512), t.val < k →
    (V (Proc.devRef .tc main_v53_6) : FVec Ideal S2048x16x512 .f32) (ix3 t b d) = whole (alphaN A b) (hN A b d) t.val

section Step
variable {A : Args} {k : ℕ} {V : Valuation τ sig (Elt Ideal)} (I : Inv A k V) (hk : k < 2048)
include I hk

theorem start0 : ((V (Proc.devRef .tc main_v53_2) : IVec S_ 32) (Shape.Idx.first h_S_)).toInt = (k : Int) := by
  rw [I.n]
  exact toInt_ofNat_of_lt (by omega)

theorem r81 (b : Fin 16) : (res_main_while0b_v81 V : FVec Ideal S16 .f32) (ix1 b) = alphaN A b k := by
  unfold res_main_while0b_v81
  exact (cast_row _ b).trans ((slice_row _ _ sliceFits_S2048x16_S1x16 k hk (start0 I hk) rfl b).trans (I.a ⟨k, hk⟩ b))
theorem r82 (b : Fin 16) (d : Fin 512) : (res_main_while0b_v82 V : FVec Ideal S16x512 .f32) (ix2 b d) = hN A b d k := by
  unfold res_main_while0b_v82
  exact (cast_plane _ b d).trans ((slice_plane _ _ sliceFits_S2048x16x512_S1x16x512 k hk (start0 I hk) rfl rfl b d).trans (I.h ⟨k, hk⟩ b d))
theorem r85 (b : Fin 16) : (res_main_while0b_v85 V : FVec Ideal S16 .f32) (ix1 b) = level (alphaN A b) k := by
  unfold res_main_while0b_v85
  exact congrArg₂ (fun x y : EReal => x + y) (I.s b) (r81 I hk b)
theorem r87 (b : Fin 16) : (res_main_while0b_v87 V : IVec S16 1) (ix1 b) = BitVec.ofBool (decide (1 ≤ level (alphaN A b) k)) := by
  unfold res_main_while0b_v87
  exact (fire_at _ b).trans (congrArg (fun x : EReal => BitVec.ofBool (decide (1 ≤ x))) (r85 I hk b))
theorem r91 (b : Fin 16) : (res_main_while0b_v91 V : FVec Ideal S16 .f32) (ix1 b) = part (alphaN A b) k := by
  unfold res_main_while0b_v91
  refine (cur_at _ _ _ b).trans ?_
  rw [r87 I hk, select_fire, r81 I hk, I.s]
  rfl
theorem r96 (b : Fin 16) (d : Fin 512) : (res_main_while0b_v96 V : FVec Ideal S16x512 .f32) (ix2 b d) = whole (alphaN A b) (hN A b d) k := by
  unfold res_main_while0b_v96
  refine (whole_at _ _ _ b d).trans ?_
  rw [r91 I hk, r82 I hk, I.f]
  rfl

/-- One trip takes the invariant to the next number. -/
theorem inv_step : Inv A (k + 1) (STEP V) where
  a t b := (congrFun (STEP_main_v53_0 V) _).trans (I.a t b)
  h t b d := (congrFun (STEP_main_v53_1 V) _).trans (I.h t b d)
  n := by
    rw [STEP_main_v53_2]
    unfold step_main_v53_2
    rw [I.n, BitVec.ofNat_add]
    rfl
  s b := by
    refine (congrFun (STEP_main_v53_3 V) _).trans ?_
    unfold step_main_v53_3
    refine (next_at _ _ b).trans ?_
    rw [r87 I hk, select_fire, r85 I hk, integ_succ]
  f b d := by
    refine (congrFun (STEP_main_v53_4 V) _).trans ?_
    unfold step_main_v53_4
    refine (rest_at _ _ _ _ _ b d).trans ?_
    rw [r87 I hk, select_fire, r81 I hk, r91 I hk, r82 I hk, r96 I hk]
    rfl
  fires t b ht := by
    refine (congrFun (STEP_main_v53_5 V) _).trans ?_
    unfold step_main_v53_5
    refine (update_row _ _ _ updateFits_S2048x16_S1x16 k hk (start0 I hk) rfl t b).trans ?_
    split
    · rename_i e
      rw [e]
      exact (up_row _ b).trans (r85 I hk b)
    · exact I.fires t b (by omega)
  frames t b d ht := by
    refine (congrFun (STEP_main_v53_6 V) _).trans ?_
    unfold step_main_v53_6
    refine (update_plane _ _ _ updateFits_S2048x16x512_S1x16x512 k hk (start0 I hk) rfl rfl t b d).trans ?_
    split
    · rename_i e
      rw [e]
      exact (up_plane _ b d).trans (r96 I hk b d)
    · exact I.frames t b d (by omega)
end Step

/-- The invariant after any number of trips. -/
theorem inv_iter {A : Args} {V : Valuation τ sig (Elt Ideal)} (I : Inv A 0 V) (k : ℕ) (hk : k ≤ 2048) : Inv A k (STEP^[k] V) := by
  induction k with
  | zero => exact I
  | succ k ih =>
    rw [Function.iterate_succ_apply']
    exact inv_step (ih (by omega)) (by omega)
end Cert.ReferenceIdeal.Own
end
-- ==== Proof.Value.ReferenceEntry.lean ====
module

public import proofs.«01_k».proof.Proof.Value.ReferenceLoop
public import Idealize.ShloMosaic.Lib.StableHlo.ReadAt

/-! What the reference computes before its loop: the scaled weights, their sums, and the loop's first carried buffers. -/

@[expose] public section
set_option maxRecDepth 16384
noncomputable section
namespace Cert.ReferenceIdeal.Own
open Idealize.ShloMosaic Idealize.ShloMosaic.TcCoe Idealize.SL.Sem Idealize.ShloMosaic.StableHlo
open Cert.ReferenceIdeal Cert.ReferenceIdeal.Gen Cert.ReferenceIdeal.Value Cert.Cif

theorem zero_pad : (FloatOps.sitofp FTy.f32 0#32 : Ideal .f32) = (0 : EReal) := by
  show (((0 : ℤ) : ℝ) : EReal) = 0
  simp

/-- A tap whose row may be padding. -/
theorem tap (p : Prop) [Decidable p] (f : p → Fin 512 → EReal) (w : Fin 512 → EReal) :
    ∑ x, (if h : p then f h x else (FloatOps.sitofp FTy.f32 0#32 : Ideal .f32)) * w x = if h : p then ∑ x, f h x * w x else 0 := by
  by_cases h : p
  · simp only [dif_pos h]
  · simp only [dif_neg h, zero_pad, zero_mul, Finset.sum_const_zero]

/-- The reference's convolution, over the padded rows. -/
def convPad (A : Args) (b : Fin 16) (t : Fin 2048) (o : Fin 512) : EReal :=
  ∑ x, (if h : 1 ≤ t.val ∧ t.val - 1 < 2048 then A.h b ⟨t.val - 1, h.2⟩ x else (FloatOps.sitofp FTy.f32 0#32 : Ideal .f32)) * A.w o x 0
    + ∑ x, A.h b t x * A.w o x 1
    + ∑ x, (if h : 1 ≤ 2 + t.val ∧ 2 + t.val - 1 < 2048 then A.h b ⟨2 + t.val - 1, h.2⟩ x else (FloatOps.sitofp FTy.f32 0#32 : Ideal .f32)) * A.w o x 2

theorem convPad_eq (A : Args) (b : Fin 16) (t : Fin 2048) (o : Fin 512) : convPad A b t o = conv A b t o := by
  unfold convPad conv
  rw [tap _ (fun h x => A.h b ⟨t.val - 1, h.2⟩ x), tap _ (fun h x => A.h b ⟨2 + t.val - 1, h.2⟩ x)]
  refine congrArg₂ (fun x y : EReal => x + (∑ x, A.h b t x * A.w o x 1) + y) ?_ ?_
  · by_cases h : t.val < 1
    · rw [dif_pos h, dif_neg (by omega)]
    · rw [dif_neg h, dif_pos ⟨by omega, by omega⟩]
  · by_cases h : t.val < 2047
    · rw [dif_pos h, dif_pos ⟨by omega, by omega⟩]
      exact congrArg (fun i => ∑ x, A.h b i x * A.w o x 2) (Fin.ext (show 2 + t.val - 1 = 1 + t.val by omega))
    · rw [dif_neg h, dif_neg (by omega)]

/-- The reference's masked weight is the common one: the clip below at zero changes nothing. -/
theorem ref_raw (A : Args) (b : Fin 16) (t : Fin 2048) :
    max (Ideal.div 1 (1 + Ideal.exp (-(∑ o, max (convPad A b t o + A.cb o) 0 * A.lw o + A.lb)))) 0 * A.mask b t = raw A b t := by
  simp only [convPad_eq]
  exact congrArg (· * A.mask b t) (max_eq_left (logistic_nonneg _))

theorem ref_tokens (A : Args) (b : Fin 16) :
    ∑ t, max (Ideal.div 1 (1 + Ideal.exp (-(∑ o, max (convPad A b t o + A.cb o) 0 * A.lw o + A.lb)))) 0 * A.mask b t = tokens A b :=
  Finset.sum_congr rfl fun t _ => ref_raw A b t

theorem ref_labels (A : Args) (b : Fin 16) :
    ∑ l, (FloatOps.uitofp FTy.f32 (IntOp.cmpi .ne (A.tgt b l) 4294967295#32) : Ideal .f32) = labels A b :=
  Finset.sum_congr rfl fun l _ => label_one (A.tgt b l)

section Entry
variable (V : Valuation τ sig (Elt Ideal))

/-- The arguments as a valuation holds them. -/
def argsOf : Args := Args.of (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))

theorem raw_at (b : Fin 16) (t : Fin 2048) : (afterL preI V (Proc.devRef .tc main_v37) : FVec Ideal S16x2048 .f32) (ix2 b t) = raw (argsOf V) b t := by
  refine Eq.trans ?_ (ref_raw (argsOf V) b t)
  simp only [afterL_cons, afterL_nil]
  after_reads_at
  rfl

theorem tokens_at (b : Fin 16) : (afterL preI V (Proc.devRef .tc main_v42) : FVec Ideal S16 .f32) (ix1 b) = tokens (argsOf V) b := by
  refine Eq.trans ?_ (ref_tokens (argsOf V) b)
  simp only [afterL_cons, afterL_nil]
  after_reads_at
  rfl

theorem labels_at (b : Fin 16) : (afterL preI V (Proc.devRef .tc main_v41) : FVec Ideal S16 .f32) (ix1 b) = labels (argsOf V) b := by
  refine Eq.trans ?_ (ref_labels (argsOf V) b)
  simp only [afterL_cons, afterL_nil]
  after_reads_at
  rfl

/-- The last stretch before the loop scales the masked weights by the quotient of the two sums. -/
theorem scale_read (U : Valuation τ sig (Elt Ideal)) : @Eq (FVec Ideal S16x2048 .f32) (StableHlo.after hostOps0_6 U (Proc.devRef .tc main_v46))
    (mulf (StableHlo.after hostOps0_6 U (Proc.devRef .tc main_v37) : FVec Ideal S16x2048 .f32)
        (broadcastInDim S16x2048 ![0, 1] bcast_S16x1_S16x2048_0_1 (broadcastInDim S16x1 ![0] bcast_S16_S16x1_0
          (Host.divf (StableHlo.after hostOps0_6 U (Proc.devRef .tc main_v41) : FVec Ideal S16 .f32)
            (StableHlo.after hostOps0_6 U (Proc.devRef .tc main_v42) : FVec Ideal S16 .f32))))) := by
  after_reads_simp

theorem scale_pay (x : FVec Ideal S16x2048 .f32) (y z : FVec Ideal S16 .f32) (b : Fin 16) (t : Fin 2048) :
    mulf x (broadcastInDim S16x2048 ![0, 1] bcast_S16x1_S16x2048_0_1 (broadcastInDim S16x1 ![0] bcast_S16_S16x1_0 (Host.divf y z))) (ix2 b t)
      = x (ix2 b t) * Ideal.div (y (ix1 b)) (z (ix1 b)) := by
  pointwise
  try rfl

theorem alphas_at (b : Fin 16) (t : Fin 2048) : (afterL preI V (Proc.devRef .tc main_v46) : FVec Ideal S16x2048 .f32) (ix2 b t) = alpha (argsOf V) b t := by
  refine (congrFun (scale_read _) (ix2 b t)).trans ((scale_pay _ _ _ b t).trans ?_)
  exact congrArg₂ (· * ·) (raw_at V b t) (congrArg₂ Ideal.div (labels_at V b) (tokens_at V b))

/-- The loop's first carried buffer is the scaled weights, turned over. -/
theorem carry_read (U : Valuation τ sig (Elt Ideal)) : @Eq (FVec Ideal S2048x16 .f32) (StableHlo.after hostOps0_6 U (Proc.devRef .tc main_v53_0))
    (transpose S2048x16 [1, 0] (StableHlo.after hostOps0_6 U (Proc.devRef .tc main_v46) : FVec Ideal S16x2048 .f32) transposes_S16x2048_S2048x16_1_0) := by
  after_reads_simp
  rfl

theorem carry_pay (x : FVec Ideal S16x2048 .f32) (t : Fin 2048) (b : Fin 16) :
    transpose S2048x16 [1, 0] x transposes_S16x2048_S2048x16_1_0 (ix2 t b) = x (ix2 b t) := by
  pointwise

/-- The loop starts at the invariant for no trips. -/
theorem inv_entry : Inv (argsOf V) 0 (afterL preI V) where
  a t b := by
    exact (congrFun (carry_read _) (ix2 t b)).trans ((carry_pay _ t b).trans ((alphas_at V b t).trans (alphaN_of (argsOf V) b t).symm))
  h t b d := by
    refine Eq.trans ?_ (hN_of (argsOf V) b d t).symm
    simp only [afterL_cons, afterL_nil]
    after_reads_simp
    simp only [id_eq]
    pointwise
    rfl
  n := by
    simp only [afterL_cons, afterL_nil]
    after_reads_simp
    rfl
  s b := by
    simp only [afterL_cons, afterL_nil]
    after_reads_simp
    simp only [id_eq]
    pointwise
    rfl
  f b d := by
    simp only [afterL_cons, afterL_nil]
    after_reads_simp
    simp only [id_eq]
    pointwise
    rfl
  fires t b h := absurd h (Nat.not_lt_zero _)
  frames t b d h := absurd h (Nat.not_lt_zero _)
end Entry
end Cert.ReferenceIdeal.Own
end
-- ==== Proof.Value.Scatter.lean ====
module

public import proofs.«01_k».proof.Proof.Gen.ReferenceIdeal
public import Idealize.ShloMosaic.Lib.Pointwise
public import Idealize.ShloMosaic.Lib.Routing.Ops
public import Idealize.ShloMosaic.Lib.Routing.OpsPair
public import Idealize.ShloMosaic.Lib.Routing.OpsSet

/-! The running count along a row of a matrix, and where the scatter of the fired embeddings lands. -/

@[expose] public section
set_option maxRecDepth 16384
noncomputable section
namespace Cert.ReferenceIdeal.Own
open Idealize.ShloMosaic Idealize.ShloMosaic.TcCoe Idealize.SL.Sem Idealize.ShloMosaic.StableHlo Idealize.ShloMosaic.Routing
open Cert.ReferenceIdeal Cert.ReferenceIdeal.Gen

/-- The running sum along row `i` of a matrix reads row `i` only. -/
theorem cumsum_row (x : IVec S16x2048 32) (init : IVec S_ 32) (i : Fin 16) (j : Fin 2048)
    (h : S16x2048.ReduceWindows (![1, 2048] : Fin 2 → Nat) ![1, 1] ![0, 2047] ![0, 0] S16x2048) (hu : 0 < S_.numel)
    (h' : (shape2 1 2048).ReduceWindows (![1, 2048] : Fin 2 → Nat) ![1, 1] ![0, 2047] ![0, 0] (shape2 1 2048)) :
    Host.reduceWindow IntOp.addi ![1, 2048] ![1, 1] ![0, 2047] ![0, 0] x init h hu (ix2 i j)
      = Host.reduceWindow IntOp.addi ![1, 2048] ![1, 1] ![0, 2047] ![0, 0] (fun k : (shape2 1 2048).Idx => x (ix2 i (k 1))) init h' hu (ix2 (0 : Fin 1) j) := by
  unfold Host.reduceWindow
  refine congrArg (fun g => List.foldl g (init (Shape.Idx.first hu)) (List.finRange (shape2 1 2048).numel)) (funext fun r => funext fun n => congrArg (IntOp.addi r) ?_)
  have hw0 : ((shape2 1 2048).rowMajor.symm n 0).val = 0 := by rw [symm2]; rfl
  have e0 : i.val * 1 + ((shape2 1 2048).rowMajor.symm n 0).val - 0 = i.val := by rw [hw0]; omega
  have hi := i.isLt
  have el : (∀ a : Fin 2, (![0, 2047] : Fin 2 → ℕ) a ≤ (ix2 i j a).val * (![1, 1] : Fin 2 → ℕ) a + ((shape2 1 2048).rowMajor.symm n a).val
      ∧ (ix2 i j a).val * (![1, 1] : Fin 2 → ℕ) a + ((shape2 1 2048).rowMajor.symm n a).val - (![0, 2047] : Fin 2 → ℕ) a < S16x2048.size a)
      ↔ (2047 ≤ j.val * 1 + ((shape2 1 2048).rowMajor.symm n 1).val ∧ j.val * 1 + ((shape2 1 2048).rowMajor.symm n 1).val - 2047 < 2048) := by
    refine ⟨fun h => h 1, fun h a => ?_⟩
    match a with
    | ⟨0, _⟩ =>
      show 0 ≤ i.val * 1 + ((shape2 1 2048).rowMajor.symm n 0).val ∧ i.val * 1 + ((shape2 1 2048).rowMajor.symm n 0).val - 0 < 16
      omega
    | ⟨1, _⟩ => exact h
  have er : (∀ a : Fin 2, (![0, 2047] : Fin 2 → ℕ) a ≤ (ix2 (0 : Fin 1) j a).val * (![1, 1] : Fin 2 → ℕ) a + ((shape2 1 2048).rowMajor.symm n a).val
      ∧ (ix2 (0 : Fin 1) j a).val * (![1, 1] : Fin 2 → ℕ) a + ((shape2 1 2048).rowMajor.symm n a).val - (![0, 2047] : Fin 2 → ℕ) a < (shape2 1 2048).size a)
      ↔ (2047 ≤ j.val * 1 + ((shape2 1 2048).rowMajor.symm n 1).val ∧ j.val * 1 + ((shape2 1 2048).rowMajor.symm n 1).val - 2047 < 2048) := by
    refine ⟨fun h => h 1, fun h a => ?_⟩
    match a with
    | ⟨0, _⟩ =>
      show 0 ≤ 0 * 1 + ((shape2 1 2048).rowMajor.symm n 0).val ∧ 0 * 1 + ((shape2 1 2048).rowMajor.symm n 0).val - 0 < 1
      omega
    | ⟨1, _⟩ => exact h
  dsimp only
  split
  · next hin =>
    split
    · refine congrArg x (funext fun a => Fin.ext ?_)
      match a with
      | ⟨0, _⟩ => exact e0
      | ⟨1, _⟩ => rfl
    · next hout => exact absurd (er.2 (el.1 hin)) hout
  · next hin =>
    split
    · next hout => exact absurd (el.2 (er.1 hout)) hin
    · rfl

/-- The running sum of a matrix of small numbers along its rows. -/
theorem cumsum_rows (x : IVec S16x2048 32) (init : IVec S_ 32) (f : ℕ → ℕ) (i : Fin 16) (hx : ∀ t : Fin 2048, x (ix2 i t) = BitVec.ofNat 32 (f t.val))
    (hinit : ∀ k, init k = 0#32) (h : S16x2048.ReduceWindows (![1, 2048] : Fin 2 → Nat) ![1, 1] ![0, 2047] ![0, 0] S16x2048) (hu : 0 < S_.numel) (j : Fin 2048) :
    Host.reduceWindow IntOp.addi ![1, 2048] ![1, 1] ![0, 2047] ![0, 0] x init h hu (ix2 i j) = BitVec.ofNat 32 ((List.range (j.val + 1)).map f).sum := by
  have h' : (shape2 1 2048).ReduceWindows (![1, 2048] : Fin 2 → Nat) ![1, 1] ![0, 2047] ![0, 0] (shape2 1 2048) := by decide
  refine (cumsum_row x init i j h hu h').trans (Eq.trans ?_ (cumsum2 (N := 2048) (Nm1 := 2047) rfl (fun k : (shape2 1 2048).Idx => x (ix2 i (k 1))) f hx init (hinit _) h' hu j))
  refine congrArg _ (funext fun a => ?_)
  match a with
  | ⟨0, _⟩ => rfl
  | ⟨1, _⟩ => rfl

/-- An update lands at the batch and position its two index words name, at its own feature. -/
theorem lands (idx : IVec S16x2048x2 32) (a : Fin 16) (t : Fin 2048) (e : Fin 512) (b : Fin 16) (j : Fin 256) (d : Fin 512) :
    scatter_S16x256x512_S16x2048x2_S16x2048x512_2_01_01_2.resultIdx? (ix3 a t e) idx = some (ix3 b j d)
      ↔ (idx (ix3 a t (0 : Fin 2))).toInt = (b.val : Int) ∧ (idx (ix3 a t (1 : Fin 2))).toInt = (j.val : Int) ∧ e.val = d.val := by
  have hsi : ∀ q : Fin 2, scatter_S16x256x512_S16x2048x2_S16x2048x512_2_01_01_2.siIdx (ix3 a t e) q = ix3 a t q := fun q => by
    funext x
    match x with
    | ⟨0, _⟩ => rfl
    | ⟨1, _⟩ => rfl
    | ⟨2, _⟩ => rfl
  have s0 : scatter_S16x256x512_S16x2048x2_S16x2048x512_2_01_01_2.start (ix3 a t e) idx 0 = (idx (ix3 a t (0 : Fin 2))).toInt :=
    congrArg (fun i => (idx i).toInt) (hsi 0)
  have s1 : scatter_S16x256x512_S16x2048x2_S16x2048x512_2_01_01_2.start (ix3 a t e) idx 1 = (idx (ix3 a t (1 : Fin 2))).toInt :=
    congrArg (fun i => (idx i).toInt) (hsi 1)
  have s2 : scatter_S16x256x512_S16x2048x2_S16x2048x512_2_01_01_2.start (ix3 a t e) idx 2 = 0 := rfl
  have w0 : scatter_S16x256x512_S16x2048x2_S16x2048x512_2_01_01_2.window (ix3 a t e) 0 = 0 := rfl
  have w1 : scatter_S16x256x512_S16x2048x2_S16x2048x512_2_01_01_2.window (ix3 a t e) 1 = 0 := rfl
  have w2 : scatter_S16x256x512_S16x2048x2_S16x2048x512_2_01_01_2.window (ix3 a t e) 2 = e.val := rfl
  rw [resultIdx?_eq_some]
  constructor
  · intro h
    have h0 := h 0
    have h1 := h 1
    have h2 := h 2
    rw [s0, w0] at h0
    rw [s1, w1] at h1
    rw [s2, w2] at h2
    change _ = (b.val : Int) at h0
    change _ = (j.val : Int) at h1
    change _ = (d.val : Int) at h2
    omega
  · rintro ⟨h0, h1, h2⟩ x
    match x with
    | ⟨0, _⟩ =>
      show scatter_S16x256x512_S16x2048x2_S16x2048x512_2_01_01_2.start (ix3 a t e) idx 0 + (scatter_S16x256x512_S16x2048x2_S16x2048x512_2_01_01_2.window (ix3 a t e) 0 : Int) = (b.val : Int)
      rw [s0, w0]
      omega
    | ⟨1, _⟩ =>
      show scatter_S16x256x512_S16x2048x2_S16x2048x512_2_01_01_2.start (ix3 a t e) idx 1 + (scatter_S16x256x512_S16x2048x2_S16x2048x512_2_01_01_2.window (ix3 a t e) 1 : Int) = (j.val : Int)
      rw [s1, w1]
      omega
    | ⟨2, _⟩ =>
      show scatter_S16x256x512_S16x2048x2_S16x2048x512_2_01_01_2.start (ix3 a t e) idx 2 + (scatter_S16x256x512_S16x2048x2_S16x2048x512_2_01_01_2.window (ix3 a t e) 2 : Int) = (d.val : Int)
      rw [s2, w2]
      omega
end Cert.ReferenceIdeal.Own
end
-- ==== Proof.Value.ReferencePost.lean ====
module

public import proofs.«01_k».proof.Proof.Value.ReferenceEntry
public import proofs.«01_k».proof.Proof.Value.Scatter
public import Idealize.ShloMosaic.Lib.WordArith

/-! What the reference computes after its loop: the integrals turned over, and the fired embeddings scattered to their labels. -/

@[expose] public section
set_option maxRecDepth 16384
noncomputable section
namespace Cert.ReferenceIdeal.Own
open Idealize.ShloMosaic Idealize.ShloMosaic.TcCoe Idealize.SL.Sem Idealize.ShloMosaic.StableHlo Idealize.ShloMosaic.Routing
open Cert.ReferenceIdeal Cert.ReferenceIdeal.Gen Cert.ReferenceIdeal.Value Cert.Cif

/-- The label a frame's embedding is sent to: the number of fired frames before it, or 256, past the last, where it did not fire. -/
def place (a : ℕ → EReal) (t : ℕ) : ℕ := if 1 ≤ level a t then count a t else 256

theorem place_small (a : ℕ → EReal) {t : ℕ} (ht : t < 2048) : place a t < 2048 := by
  have := count_le a t
  unfold place
  split <;> omega

theorem count_sum (a : ℕ → EReal) : ∀ n, ((List.range n).map fun t => if 1 ≤ level a t then 1 else 0).sum = count a n
  | 0 => rfl
  | n + 1 => by rw [List.sum_range_succ, count_sum a n, count_succ]

section Pay
theorem fired_pay (x : FVec Ideal S16x2048 .f32) (b : Fin 16) (t : Fin 2048) :
    cmpf .oge x (broadcastInDim S16x2048 ![] bcast_S_S16x2048 (constant S_ .f32 0x3F800000#32)) (ix2 b t) = BitVec.ofBool (decide ((1 : EReal) ≤ x (ix2 b t))) := by
  pointwise
  try rfl

/-- A mask bit as a word. -/
theorem word_of (p : Prop) [Decidable p] : (BitVec.ofBool (decide p)).setWidth 32 = BitVec.ofNat 32 (if p then 1 else 0) := by
  by_cases h : p
  · rw [decide_eq_true h, if_pos h]
    rfl
  · rw [decide_eq_false h, if_neg h]
    rfl

/-- One from a count that has just gone up. -/
theorem place_word (a : ℕ → EReal) (t : ℕ) :
    Scalar.select (BitVec.ofBool (decide ((1 : EReal) ≤ level a t))) (IntOp.subi (BitVec.ofNat 32 (count a (t + 1))) 1#32) 256#32 = BitVec.ofNat 32 (place a t) := by
  by_cases h : 1 ≤ level a t
  · rw [decide_eq_true h, place, if_pos h, count_succ, if_pos h]
    show BitVec.ofNat 32 (count a t + 1) - 1#32 = _
    rw [BitVec.ofNat_add]
    exact BitVec.add_sub_cancel _ _
  · rw [decide_eq_false h, place, if_neg h]
    rfl

theorem wrap_word (n : ℕ) (h : n < 2 ^ 31) (y : BitVec 32) : Scalar.select (IntOp.cmpi .slt (BitVec.ofNat 32 n) 0#32) y (BitVec.ofNat 32 n) = BitVec.ofNat 32 n :=
  wrap_of_lt _ _ (by rw [BitVec.toNat_ofNat]; omega)

theorem pair0 (x y : IVec S16x2048x1 32) (b : Fin 16) (t : Fin 2048) :
    concatenate S16x2048x2 2 [⟨S16x2048x1, x⟩, ⟨S16x2048x1, y⟩] concatenates_S16x2048x1_S16x2048x1_S16x2048x2_d2 (ix3 b t (0 : Fin 2)) = x (ix3 b t (0 : Fin 1)) := by
  pointwise
  try rfl

theorem pair1 (x y : IVec S16x2048x1 32) (b : Fin 16) (t : Fin 2048) :
    concatenate S16x2048x2 2 [⟨S16x2048x1, x⟩, ⟨S16x2048x1, y⟩] concatenates_S16x2048x1_S16x2048x1_S16x2048x2_d2 (ix3 b t (1 : Fin 2)) = y (ix3 b t (0 : Fin 1)) := by
  pointwise
  try rfl
end Pay

section Reads
variable (W : Valuation τ sig (Elt Ideal))

theorem turned (b : Fin 16) (t : Fin 2048) : (StableHlo.after hostOps0_7 W (Proc.devRef .tc main_v54) : FVec Ideal S16x2048 .f32) (ix2 b t)
    = (W (Proc.devRef .tc main_v53_5) : FVec Ideal S2048x16 .f32) (ix2 t b) := by
  after_reads_at

theorem turned_h (b : Fin 16) (t : Fin 2048) (d : Fin 512) : (StableHlo.after hostOps0_7 W (Proc.devRef .tc main_v55) : FVec Ideal S16x2048x512 .f32) (ix3 b t d)
    = (W (Proc.devRef .tc main_v53_6) : FVec Ideal S2048x16x512 .f32) (ix3 t b d) := by
  after_reads_at

theorem fired_read : @Eq (IVec S16x2048 1) (StableHlo.after hostOps0_7 W (Proc.devRef .tc main_v57))
    (cmpf (F := Ideal) (φ := .f32) .oge (StableHlo.after hostOps0_7 W (Proc.devRef .tc main_v54) : FVec Ideal S16x2048 .f32) (broadcastInDim S16x2048 ![] bcast_S_S16x2048 (constant S_ .f32 0x3F800000#32))) := by
  after_reads_simp

theorem word_read (b : Fin 16) (t : Fin 2048) : (StableHlo.after hostOps0_7 W (Proc.devRef .tc main_v58) : IVec S16x2048 32) (ix2 b t)
    = ((StableHlo.after hostOps0_7 W (Proc.devRef .tc main_v57) : IVec S16x2048 1) (ix2 b t)).setWidth 32 := by
  after_reads_simp
  rfl

theorem sum_read : @Eq (IVec S16x2048 32) (StableHlo.after hostOps0_8 W (Proc.devRef .tc main_v59))
    (Host.reduceWindow IntOp.addi ![1, 2048] ![1, 1] ![0, 2047] ![0, 0] (W (Proc.devRef .tc main_v58) : IVec S16x2048 32)
      (broadcastInDim S_ ![] bcast_S_S_ (constantI S_ 32 0#32)) reduceWindows_S16x2048_S16x2048_w1s1p0_0_w2048s1p2047_0 h_S_) := by
  after_reads_simp
  simp -implicitDefEqProofs only [StableHlo.TRef.toBuf, StableHlo.TRef.ofBuf, cast_cast, cast_eq]

theorem minus_read (b : Fin 16) (t : Fin 2048) : (StableHlo.after hostOps0_9 W (Proc.devRef .tc main_v61) : IVec S16x2048 32) (ix2 b t)
    = IntOp.subi ((W (Proc.devRef .tc main_v59) : IVec S16x2048 32) (ix2 b t)) 1#32 := by
  after_reads_at
  try rfl

theorem past_read : (StableHlo.after hostOps0_9 W (Proc.devRef .tc main_c_13) : IVec S_ 32) = constantI S_ 32 256#32 := by
  after_reads_simp

theorem where_read (b : Fin 16) (t : Fin 2048) (hp : W (Proc.devRef .tc main_c_13) = (constantI S_ 32 256#32 : IVec S_ 32)) :
    (StableHlo.after hostOps0_10 W (Proc.devRef .tc main_v62) : IVec S16x2048 32) (ix2 b t)
      = Scalar.select ((W (Proc.devRef .tc main_v57) : IVec S16x2048 1) (ix2 b t)) ((W (Proc.devRef .tc main_v61) : IVec S16x2048 32) (ix2 b t)) 256#32 := by
  after_reads_simp
  simp only [id_eq, hp]
  rfl

theorem scatter_read : @Eq (FVec Ideal S16x256x512 .f32) (StableHlo.after hostOps0_11 W (Proc.devRef .tc main_v80))
    (Host.scatter scatter_S16x256x512_S16x2048x2_S16x2048x512_2_01_01_2 (fun _ b => b)
      (broadcastInDim S16x256x512 ![] bcast_S_S16x256x512 (constant S_ .f32 0x00000000#32) : FVec Ideal S16x256x512 .f32)
      (concatenate S16x2048x2 2 [⟨S16x2048x1, (StableHlo.upto hostOps0_11 W 21 (Proc.devRef .tc main_v77) : IVec S16x2048x1 32)⟩,
        ⟨S16x2048x1, (StableHlo.upto hostOps0_11 W 21 (Proc.devRef .tc main_v78) : IVec S16x2048x1 32)⟩] concatenates_S16x2048x1_S16x2048x1_S16x2048x2_d2)
      (W (Proc.devRef .tc main_v55) : FVec Ideal S16x2048x512 .f32)) := by
  after_reads_simp

theorem batch_read (b : Fin 16) (t : Fin 2048) : (StableHlo.upto hostOps0_11 W 21 (Proc.devRef .tc main_v77) : IVec S16x2048x1 32) (ix3 b t (0 : Fin 1))
    = BitVec.ofNat 32 b.val := by
  refine Eq.trans ?_ (wrap_word b.val (by omega) (IntOp.addi (BitVec.ofNat 32 b.val) 16#32))
  after_reads_at
  try rfl

theorem position_read (b : Fin 16) (t : Fin 2048) (n : ℕ) (hn : n < 2 ^ 31) (h : (W (Proc.devRef .tc main_v62) : IVec S16x2048 32) (ix2 b t) = BitVec.ofNat 32 n) :
    (StableHlo.upto hostOps0_11 W 21 (Proc.devRef .tc main_v78) : IVec S16x2048x1 32) (ix3 b t (0 : Fin 1)) = BitVec.ofNat 32 n := by
  refine Eq.trans ?_ (wrap_word n hn (IntOp.addi (BitVec.ofNat 32 n) 256#32))
  rw [← h]
  after_reads_at
  try rfl
end Reads

section Post
variable (U : Valuation τ sig (Elt Ideal)) (a : ℕ → EReal) (b : Fin 16)
  (hf : ∀ t : Fin 2048, (U (Proc.devRef .tc main_v53_5) : FVec Ideal S2048x16 .f32) (ix2 t b) = level a t.val)
include hf

theorem fired_at (t : Fin 2048) :
    (StableHlo.after hostOps0_7 U (Proc.devRef .tc main_v57) : IVec S16x2048 1) (ix2 b t) = BitVec.ofBool (decide ((1 : EReal) ≤ level a t.val)) :=
  (congrFun (fired_read U) (ix2 b t)).trans ((fired_pay _ b t).trans
    (congrArg (fun x : EReal => BitVec.ofBool (decide ((1 : EReal) ≤ x))) ((turned U b t).trans (hf t))))

theorem sum_at (t : Fin 2048) :
    (StableHlo.after hostOps0_8 (StableHlo.after hostOps0_7 U) (Proc.devRef .tc main_v59) : IVec S16x2048 32) (ix2 b t) = BitVec.ofNat 32 (count a (t.val + 1)) := by
  refine (congrFun (sum_read _) (ix2 b t)).trans ((cumsum_rows _ _ (fun n => if 1 ≤ level a n then 1 else 0) b (fun t' => ?_) (fun _ => rfl) _ _ t).trans ?_)
  · exact (word_read U b t').trans ((congrArg (fun x : BitVec 1 => x.setWidth 32) (fired_at U a b hf t')).trans (word_of _))
  · rw [count_sum]

/-- Where each frame's embedding is sent. -/
theorem place_at (t : Fin 2048) :
    (StableHlo.after hostOps0_10 (StableHlo.after hostOps0_9 (StableHlo.after hostOps0_8 (StableHlo.after hostOps0_7 U))) (Proc.devRef .tc main_v62) : IVec S16x2048 32) (ix2 b t)
      = BitVec.ofNat 32 (place a t.val) := by
  refine (where_read _ b t (past_read _)).trans (Eq.trans ?_ (place_word a t.val))
  have e1 : (StableHlo.after hostOps0_9 (StableHlo.after hostOps0_8 (StableHlo.after hostOps0_7 U)) (Proc.devRef .tc main_v57) : IVec S16x2048 1) (ix2 b t)
      = BitVec.ofBool (decide ((1 : EReal) ≤ level a t.val)) := by
    rw [after_of_writes_sub _ _ hostOps0_9_writes (by decide), after_of_writes_sub _ _ hostOps0_8_writes (by decide)]
    exact fired_at U a b hf t
  exact congrArg₂ (fun (x : BitVec 1) (y : BitVec 32) => Scalar.select x y 256#32) e1
    ((minus_read _ b t).trans (congrArg (fun y => IntOp.subi y 1#32) (sum_at U a b hf t)))
end Post

/-- The scattered embeddings: each fired frame's at its own label, zero elsewhere. -/
theorem scattered (U : Valuation τ sig (Elt Ideal)) (A : Args) (ha : ∀ b n, alphaN A b n ≠ ⊤ ∧ alphaN A b n ≠ ⊥)
    (hf : ∀ (t : Fin 2048) (b : Fin 16), (U (Proc.devRef .tc main_v53_5) : FVec Ideal S2048x16 .f32) (ix2 t b) = level (alphaN A b) t.val)
    (hF : ∀ (t : Fin 2048) (b : Fin 16) (d : Fin 512), (U (Proc.devRef .tc main_v53_6) : FVec Ideal S2048x16x512 .f32) (ix3 t b d) = whole (alphaN A b) (hN A b d) t.val)
    (b : Fin 16) (j : Fin 256) (d : Fin 512) :
    (afterL postI U (Proc.devRef .tc main_v80) : FVec Ideal S16x256x512 .f32) (ix3 b j d) = embed A b j d := by
  refine (congrFun (scatter_read _) (ix3 b j d)).trans ?_
  generalize hW : StableHlo.after hostOps0_10 (StableHlo.after hostOps0_9 (StableHlo.after hostOps0_8 (StableHlo.after hostOps0_7 U))) = W
  have hp : ∀ (b : Fin 16) (t : Fin 2048), (W (Proc.devRef .tc main_v62) : IVec S16x2048 32) (ix2 b t) = BitVec.ofNat 32 (place (alphaN A b) t.val) := fun b t => by
    rw [← hW]
    exact place_at U (alphaN A b) b (fun t => hf t b) t
  have hx : ∀ (b : Fin 16) (t : Fin 2048) (d : Fin 512), (W (Proc.devRef .tc main_v55) : FVec Ideal S16x2048x512 .f32) (ix3 b t d) = whole (alphaN A b) (hN A b d) t.val :=
    fun b t d => by
      rw [← hW, after_of_writes_sub _ _ hostOps0_10_writes (by decide), after_of_writes_sub _ _ hostOps0_9_writes (by decide),
        after_of_writes_sub _ _ hostOps0_8_writes (by decide)]
      exact (turned_h U b t d).trans (hF t b d)
  generalize hidx : concatenate S16x2048x2 2 [⟨S16x2048x1, (StableHlo.upto hostOps0_11 W 21 (Proc.devRef .tc main_v77) : IVec S16x2048x1 32)⟩,
        ⟨S16x2048x1, (StableHlo.upto hostOps0_11 W 21 (Proc.devRef .tc main_v78) : IVec S16x2048x1 32)⟩] concatenates_S16x2048x1_S16x2048x1_S16x2048x2_d2 = idx
  have i0 : ∀ (b : Fin 16) (t : Fin 2048), (idx (ix3 b t (0 : Fin 2))).toInt = (b.val : Int) := fun b t => by
    rw [← hidx, pair0, batch_read]
    exact WordArith.toInt_ofNat_small _ (by omega)
  have i1 : ∀ (b : Fin 16) (t : Fin 2048), (idx (ix3 b t (1 : Fin 2))).toInt = (place (alphaN A b) t.val : Int) := fun b t => by
    have := place_small (alphaN A b) t.isLt
    rw [← hidx, pair1, position_read W b t (place (alphaN A b) t.val) (by omega) (hp b t)]
    exact WordArith.toInt_ofNat_small _ (by omega)
  have hl : ∀ k, scatter_S16x256x512_S16x2048x2_S16x2048x512_2_01_01_2.resultIdx? k idx = some (ix3 b j d) →
      ∃ t : Fin 2048, k = ix3 b t d ∧ 1 ≤ level (alphaN A b) t.val ∧ count (alphaN A b) t.val = j.val := fun k hk => by
    obtain ⟨a, t, e, rfl⟩ : ∃ (a : Fin 16) (t : Fin 2048) (e : Fin 512), k = ix3 a t e := ⟨k 0, k 1, k 2, eq_ix3 k⟩
    obtain ⟨h0, h1, h2⟩ := (lands idx a t e b j d).1 hk
    rw [i0] at h0
    rw [i1] at h1
    obtain rfl : a = b := Fin.ext (by omega)
    obtain rfl : e = d := Fin.ext h2
    have hj := j.isLt
    have hfire : 1 ≤ level (alphaN A a) t.val := by
      by_contra hc
      rw [place, if_neg hc] at h1
      omega
    rw [place, if_pos hfire] at h1
    exact ⟨t, rfl, hfire, by omega⟩
  unfold embed
  by_cases hj : j.val < count (alphaN A b) 2048
  · rw [if_pos hj]
    obtain ⟨m, hm, hfire, hc⟩ := exists_fire (alphaN A b) hj
    refine scatter_set_hit _ _ idx _ (ix3 b j d) _ (fun k hk => ?_) (ix3 b (⟨m, hm⟩ : Fin 2048) d) ?_
    · obtain ⟨t, rfl, h1, h2⟩ := hl k hk
      rw [hx, ← h2, upto_fire (alphaN A b) (hN A b d) (ha b) h1 t.isLt]
    · refine (lands idx b ⟨m, hm⟩ d b j d).2 ⟨i0 b _, ?_, rfl⟩
      rw [i1, place, if_pos hfire, hc]
  · rw [if_neg hj]
    refine (scatter_set_miss _ _ idx _ (ix3 b j d) fun k hk => ?_).trans ?_
    · obtain ⟨t, -, h1, h2⟩ := hl k hk
      have := count_fire (alphaN A b) h1 t.isLt
      omega
    · pointwise

section Final
variable (m : (ℓ : Loc nD τ sig) → Buf (Elt Ideal) ℓ) (c : Dev nD)

/-- The arguments as launched. -/
abbrev args : Args := argsOf (launchContents m c)

/-- After all 2048 trips. -/
theorem inv_last : Inv (args m c) 2048 (STEP^[2048] (entryContents preI m c)) := inv_iter (inv_entry (launchContents m c)) 2048 le_rfl

/-- A carried buffer after the loop and its last condition. -/
theorem last_keeps (r : Ref sig .tc) (h : r ∈ carriedRefs) (h' : r ∉ ([main_while0c_c_25, main_while0c_v81] : List (Ref sig .tc))) :
    StableHlo.after condOps (atTrip condOps bodyI (entryContents preI m) 2048 c) (Proc.devRef .tc r) = STEP^[2048] (entryContents preI m c) (Proc.devRef .tc r) := by
  rw [after_of_writes_sub _ _ cond_writes h']
  exact atK_agree m c 2048 r h

theorem last_fires (t : Fin 2048) (b : Fin 16) :
    (StableHlo.after condOps (atTrip condOps bodyI (entryContents preI m) 2048 c) (Proc.devRef .tc main_v53_5) : FVec Ideal S2048x16 .f32) (ix2 t b)
      = level (alphaN (args m c) b) t.val :=
  (congrFun (last_keeps m c main_v53_5 (by decide) (by decide)) (ix2 t b)).trans ((inv_last m c).fires t b t.isLt)

theorem last_frames (t : Fin 2048) (b : Fin 16) (d : Fin 512) :
    (StableHlo.after condOps (atTrip condOps bodyI (entryContents preI m) 2048 c) (Proc.devRef .tc main_v53_6) : FVec Ideal S2048x16x512 .f32) (ix3 t b d)
      = whole (alphaN (args m c) b) (hN (args m c) b d) t.val :=
  (congrFun (last_keeps m c main_v53_6 (by decide) (by decide)) (ix3 t b d)).trans ((inv_last m c).frames t b d t.isLt)

/-- The sum of the weights. -/
theorem result_tokens (b : Fin 16) :
    (finalContents condOps preI bodyI postI 2048 m c (Proc.devRef .tc main_v42) : FVec Ideal S16 .f32) (ix1 b) = tokens (args m c) b :=
  (congrFun (final_keeps main_v42 (by decide) (by decide) m c) (ix1 b)).trans (tokens_at _ b)

/-- The scaled weights. -/
theorem result_alphas (b : Fin 16) (t : Fin 2048) :
    (finalContents condOps preI bodyI postI 2048 m c (Proc.devRef .tc main_v46) : FVec Ideal S16x2048 .f32) (ix2 b t) = alpha (args m c) b t :=
  (congrFun (final_keeps main_v46 (by decide) (by decide) m c) (ix2 b t)).trans (alphas_at _ b t)

/-- The integrals. -/
theorem result_fires (b : Fin 16) (t : Fin 2048) :
    (finalContents condOps preI bodyI postI 2048 m c (Proc.devRef .tc main_v54) : FVec Ideal S16x2048 .f32) (ix2 b t) = level (alphaN (args m c) b) t.val := by
  refine Eq.trans ?_ ((turned _ b t).trans (last_fires m c t b))
  show afterL postI _ (Proc.devRef .tc main_v54) (ix2 b t) = _
  simp only [postI, afterL_cons, afterL_nil]
  rw [after_of_writes_sub _ _ hostOps0_11_writes (by decide), after_of_writes_sub _ _ hostOps0_10_writes (by decide),
    after_of_writes_sub _ _ hostOps0_9_writes (by decide), after_of_writes_sub _ _ hostOps0_8_writes (by decide)]

/-- The embeddings. -/
theorem result_embeds (ha : ∀ b n, alphaN (args m c) b n ≠ ⊤ ∧ alphaN (args m c) b n ≠ ⊥) (b : Fin 16) (j : Fin 256) (d : Fin 512) :
    (finalContents condOps preI bodyI postI 2048 m c (Proc.devRef .tc main_v80) : FVec Ideal S16x256x512 .f32) (ix3 b j d) = embed (args m c) b j d :=
  scattered _ (args m c) ha (last_fires m c) (last_frames m c) b j d
end Final
end Cert.ReferenceIdeal.Own
end
-- ==== Proof.Value.Tame.lean ====
module

public import proofs.«01_k».proof.Defs
public import proofs.«01_k».proof.Proof.Value.Spec
public import Idealize.ShloMosaic.Lib.Pointwise

/-! What the precondition says of the arguments: the mask is not negative, and the hidden states are finite. -/

@[expose] public section
set_option maxRecDepth 16384
noncomputable section
namespace Cert.Cif
open Idealize.ShloMosaic

/-- The precondition's side conditions on its broadcasts. -/
theorem tame_facts : Cert.Pre_tame.Facts := ⟨by decide, by decide⟩

section
variable [Cert.Pre_tame.Facts] (x0 : FVec Ideal Cert.Pre_tame.S16x2048x512 .f32) (x1 : FVec Ideal Cert.Pre_tame.S16x1x2048 .f32)
  (x2 : IVec Cert.Pre_tame.S16x256 32) (x3 : FVec Ideal Cert.Pre_tame.S512x512x3 .f32) (x4 : FVec Ideal Cert.Pre_tame.S512 .f32)
  (x5 : FVec Ideal Cert.Pre_tame.S1x512 .f32) (x6 : FVec Ideal Cert.Pre_tame.S1 .f32)

theorem tame_h (b : Fin 16) (t : Fin 2048) (d : Fin 512) :
    (Cert.Pre_tame.fn (F := Ideal) x0 x1 x2 x3 x4 x5 x6).1 (ix3 b t d) = BitVec.ofBool (decide (max (x0 (ix3 b t d) : EReal) (-(x0 (ix3 b t d))) < ⊤)) := by
  unfold Cert.Pre_tame.fn
  pointwise
  rfl

theorem tame_m (b : Fin 16) (t : Fin 2048) :
    (Cert.Pre_tame.fn (F := Ideal) x0 x1 x2 x3 x4 x5 x6).2 (ix3 b (0 : Fin 1) t) = BitVec.ofBool (decide ((0 : EReal) ≤ x1 (ix3 b (0 : Fin 1) t))) := by
  unfold Cert.Pre_tame.fn
  pointwise
end

theorem of_one {p : Prop} [Decidable p] (h : BitVec.ofBool (decide p) = 1#1) : p := by
  by_contra hp
  rw [decide_eq_false hp] at h
  exact absurd h (by decide)

theorem finite_of_abs {x : EReal} (h : max x (-x) < ⊤) : x ≠ ⊤ ∧ x ≠ ⊥ := by
  refine ⟨fun e => ?_, fun e => ?_⟩
  · subst e
    exact absurd h (by simp)
  · subst e
    exact absurd h (by simp)
end Cert.Cif
end
-- ==== Proof.lean ====
/- The proof of the certificate's claim: the runs of the two readings of the kernel and of the reference, and the equality of their results. -/
module

public import proofs.«01_k».proof.Defs
public import proofs.«01_k».proof.Proof.Kernel.Run
public import proofs.«01_k».proof.Proof.KernelIdeal.Run
public import proofs.«01_k».proof.Proof.ReferenceIdeal.Frame
public import proofs.«01_k».proof.Proof.Value.KernelEmbed
public import proofs.«01_k».proof.Proof.Value.ReferencePost
public import proofs.«01_k».proof.Proof.Value.Tame

@[expose] public section

set_option maxRecDepth 16384

noncomputable section

namespace Cert.Proof

open Idealize.ShloMosaic Idealize.SL.Sem

/-- The kernel at machine floats runs, keeps its arguments and leaves every semaphore at zero. -/
theorem frame_kernel : Cert.quiescent_Kernel (hKernel := Cert.Kernel.Gen.facts) := fun m ρ _ =>
  (θ_run _ _ _).mono (fun _ h => ⟨fun c => (h.1 c).2, h.2⟩) (Cert.Kernel.Own.run m ρ)

/-- The kernel at extended reals runs, keeps its arguments and leaves every semaphore at zero. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Own.run m ρ)

/-- The reference at extended reals runs, keeps its arguments and leaves every semaphore at zero. -/
theorem frame_reference : Cert.quiescent_ReferenceIdeal (hReferenceIdeal := Cert.ReferenceIdeal.Gen.facts) := fun m ρ _ =>
  (θ_run _ _ _).mono (fun _ h => ⟨fun c => (h.1 c).2, h.2⟩) (Cert.ReferenceIdeal.Own.run m ρ)

/-- The kernel at extended reals, under the precondition: it needs none of it to run. -/
theorem frame_ideal_tame : Cert.quiescent_KernelIdeal_pre_tame (hKernelIdeal := Cert.KernelIdeal.Gen.facts) (hPre_tame := Cert.Cif.tame_facts) := fun m ρ _ =>
  frame_ideal m ρ trivial

/-- The reference at extended reals, under the precondition: it needs none of it to run. -/
theorem frame_reference_tame : Cert.quiescent_ReferenceIdeal_pre_tame (hReferenceIdeal := Cert.ReferenceIdeal.Gen.facts) (hPre_tame := Cert.Cif.tame_facts) := fun m ρ _ =>
  frame_reference m ρ trivial

section Algebraic
open Cert.Cif

variable (m : (ℓ : Loc Cert.KernelIdeal.nD Cert.KernelIdeal.τ Cert.KernelIdeal.sig) → Buf (Elt Ideal) ℓ) (ρ : Dev Cert.KernelIdeal.nD → PrngReg)
  (h : Cert.Pre_KernelIdeal_tame (hPre_tame := Cert.Cif.tame_facts) m) (c : Dev Cert.KernelIdeal.nD)
include h

/-- Under the precondition the mask is not negative. -/
theorem mask_nonneg (b : Fin 16) (t : Fin 2048) : 0 ≤ (Cert.KernelIdeal.Own.args m ρ c).mask b t :=
  of_one ((@tame_m Cert.Cif.tame_facts _ _ _ _ _ _ _ b t).symm.trans (congrFun (h c).2 (ix3 b (0 : Fin 1) t)))

/-- Under the precondition the hidden states are finite. -/
theorem hidden_finite (b : Fin 16) (d : Fin 512) (n : ℕ) :
    hN (Cert.KernelIdeal.Own.args m ρ c) b d n ≠ ⊤ ∧ hN (Cert.KernelIdeal.Own.args m ρ c) b d n ≠ ⊥ :=
  finite_of_abs (of_one ((@tame_h Cert.Cif.tame_facts _ _ _ _ _ _ _ b ⟨min n 2047, by omega⟩ d).symm.trans (congrFun (h c).1 (ix3 b ⟨min n 2047, by omega⟩ d))))

/-- Under the precondition the scaled weights are finite. -/
theorem weights_finite (b : Fin 16) (n : ℕ) :
    alphaN (Cert.KernelIdeal.Own.args m ρ c) b n ≠ ⊤ ∧ alphaN (Cert.KernelIdeal.Own.args m ρ c) b n ≠ ⊥ :=
  alphaN_finite _ (mask_nonneg m ρ h c) b n

variable (m' : (ℓ : Loc Cert.ReferenceIdeal.nD Cert.ReferenceIdeal.τ Cert.ReferenceIdeal.sig) → Buf (Elt Ideal) ℓ)
  (e : Cert.ReferenceIdeal.Own.args m' c = Cert.KernelIdeal.Own.args m ρ c)
include e

open Idealize.ShloMosaic.StableHlo in
/-- The four results of the reference are the kernel's. -/
theorem results_eq :
    finalContents Cert.ReferenceIdeal.Value.condOps Cert.ReferenceIdeal.Value.preI Cert.ReferenceIdeal.Value.bodyI Cert.ReferenceIdeal.Value.postI 2048 m' c (Proc.devRef .tc Cert.ReferenceIdeal.main_v80)
        = (Cert.KernelIdeal.Own.W7 m ρ c (Proc.devRef .tc Cert.KernelIdeal.main_v37) : FVec Ideal Cert.KernelIdeal.S16x256x512 .f32)
    ∧ finalContents Cert.ReferenceIdeal.Value.condOps Cert.ReferenceIdeal.Value.preI Cert.ReferenceIdeal.Value.bodyI Cert.ReferenceIdeal.Value.postI 2048 m' c (Proc.devRef .tc Cert.ReferenceIdeal.main_v42)
        = (Cert.KernelIdeal.Own.W7 m ρ c (Proc.devRef .tc Cert.KernelIdeal.main_v17) : FVec Ideal Cert.KernelIdeal.S16 .f32)
    ∧ finalContents Cert.ReferenceIdeal.Value.condOps Cert.ReferenceIdeal.Value.preI Cert.ReferenceIdeal.Value.bodyI Cert.ReferenceIdeal.Value.postI 2048 m' c (Proc.devRef .tc Cert.ReferenceIdeal.main_v46)
        = (Cert.KernelIdeal.Own.W7 m ρ c (Proc.devRef .tc Cert.KernelIdeal.main_v38) : FVec Ideal Cert.KernelIdeal.S16x2048 .f32)
    ∧ finalContents Cert.ReferenceIdeal.Value.condOps Cert.ReferenceIdeal.Value.preI Cert.ReferenceIdeal.Value.bodyI Cert.ReferenceIdeal.Value.postI 2048 m' c (Proc.devRef .tc Cert.ReferenceIdeal.main_v54)
        = (Cert.KernelIdeal.Own.W7 m ρ c (Proc.devRef .tc Cert.KernelIdeal.main_v39) : FVec Ideal Cert.KernelIdeal.S16x2048 .f32) := by
  refine ⟨funext fun y => ?_, funext fun y => ?_, funext fun y => ?_, funext fun y => ?_⟩
  · obtain ⟨b, j, d, rfl⟩ : ∃ (b : Fin 16) (j : Fin 256) (d : Fin 512), y = ix3 b j d := ⟨y 0, y 1, y 2, eq_ix3 y⟩
    refine (Cert.ReferenceIdeal.Own.result_embeds m' c (by rw [e]; exact weights_finite m ρ h c) b j d).trans ?_
    rw [e]
    exact (Cert.KernelIdeal.Own.result_embeds m ρ c (weights_finite m ρ h c) (hidden_finite m ρ h c) b j d).symm
  · obtain ⟨b, rfl⟩ : ∃ b : Fin 16, y = ix1 b := ⟨y 0, eq_ix1 y⟩
    refine (Cert.ReferenceIdeal.Own.result_tokens m' c b).trans ?_
    rw [e]
    exact (Cert.KernelIdeal.Own.result_tokens m ρ c b).symm
  · obtain ⟨b, t, rfl⟩ : ∃ (b : Fin 16) (t : Fin 2048), y = ix2 b t := ⟨y 0, y 1, eq_ix2 y⟩
    refine (Cert.ReferenceIdeal.Own.result_alphas m' c b t).trans ?_
    rw [e]
    exact (Cert.KernelIdeal.Own.result_alphas m ρ c b t).symm
  · obtain ⟨b, t, rfl⟩ : ∃ (b : Fin 16) (t : Fin 2048), y = ix2 b t := ⟨y 0, y 1, eq_ix2 y⟩
    refine (Cert.ReferenceIdeal.Own.result_fires m' c b t).trans ?_
    rw [e]
    exact (Cert.KernelIdeal.Own.result_fires m ρ c b t).symm
end Algebraic

/-- From equal arguments, and under the precondition, the kernel and the reference at extended reals end with equal results. -/
theorem algebraic : Cert.algebraic_KernelIdeal_ReferenceIdeal_pre_tame (hKernelIdeal := Cert.KernelIdeal.Gen.facts)
    (hReferenceIdeal := Cert.ReferenceIdeal.Gen.facts) (hPre_tame := Cert.Cif.tame_facts) := fun m ρ m' ρ' hp ha => by
  have e : ∀ c, Cert.ReferenceIdeal.Own.args m' c = Cert.KernelIdeal.Own.args m ρ c := fun c => by
    obtain ⟨h0, h1, h2, h3, h4, h5, h6⟩ := ha c
    have h := congr (congr (congr (congr (congr (congr (congrArg Cert.Cif.Args.of h0) h1) h2) h3) h4) h5) h6
    exact h
  refine ⟨fun c => Cert.KernelIdeal.Own.W7 m ρ c (Proc.devRef .tc Cert.KernelIdeal.main_v37), fun c => Cert.KernelIdeal.Own.W7 m ρ c (Proc.devRef .tc Cert.KernelIdeal.main_v17),
    fun c => Cert.KernelIdeal.Own.W7 m ρ c (Proc.devRef .tc Cert.KernelIdeal.main_v38), fun c => Cert.KernelIdeal.Own.W7 m ρ c (Proc.devRef .tc Cert.KernelIdeal.main_v39), ?_, ?_⟩
  · refine (θ_run _ _ _).mono (fun r h c => ?_) (Cert.KernelIdeal.Own.run m ρ)
    obtain ⟨⟨h0, h1, h2, h3⟩, hargs⟩ := h.1 c
    exact ⟨h0, h1, h2, h3, hargs⟩
  · refine (θ_run _ _ _).mono (fun r h c => ?_) (Cert.ReferenceIdeal.Own.run m' ρ')
    obtain ⟨⟨h0, h1, h2, h3⟩, hargs⟩ := h.1 c
    obtain ⟨r0, r1, r2, r3⟩ := results_eq m ρ hp c m' (e c)
    exact ⟨h0.trans r0, h1.trans r1, h2.trans r2, h3.trans r3, hargs⟩

/-- The certificate's claim. -/
theorem claim : Cert.Claim := ⟨Cert.Kernel.Gen.facts, Cert.KernelIdeal.Gen.facts, Cert.ReferenceIdeal.Gen.facts, Cert.Cif.tame_facts,
  frame_kernel, frame_ideal, frame_ideal_tame, frame_reference, frame_reference_tame, trivial, algebraic⟩

end Cert.Proof

end
